-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S4096x2048 : Shape := ⟨2, ![4096, 2048]⟩
abbrev S512x1024 : Shape := ⟨2, ![512, 1024]⟩
abbrev S2x256x2048 : Shape := ⟨3, ![2, 256, 2048]⟩
abbrev S512x2048 : Shape := ⟨2, ![512, 2048]⟩
abbrev S3x2x256x2048 : Shape := ⟨4, ![3, 2, 256, 2048]⟩
abbrev S_ : Shape := ⟨0, ![]⟩
abbrev S12 : Shape := ⟨1, ![12]⟩
abbrev S256x1024 : Shape := ⟨2, ![256, 1024]⟩
abbrev S256x2048 : Shape := ⟨2, ![256, 2048]⟩
abbrev S1x256x2048 : Shape := ⟨3, ![1, 256, 2048]⟩
abbrev S1 : Shape := ⟨1, ![1]⟩
abbrev S1x1x256x2048 : Shape := ⟨4, ![1, 1, 256, 2048]⟩

abbrev nBuf : Space → Nat
  | .hbm => 3
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .local _ .vmem, ⟨0, _⟩ => ⟨S1024x2048, .f32⟩
  | .local _ .vmem, ⟨1, _⟩ => ⟨S512x1024, .f32⟩
  | .local _ .vmem, ⟨2, _⟩ => ⟨S512x1024, .f32⟩
  | .local _ .vmem, ⟨3, _⟩ => ⟨S2x256x2048, .f32⟩
  | .local _ .vmem, ⟨4, _⟩ => ⟨S2x256x2048, .f32⟩
  | .local _ .vmem, ⟨5, _⟩ => ⟨S512x2048, .f32⟩
  | .local _ .vmem, ⟨6, _⟩ => ⟨S512x2048, .f32⟩
  | .local _ .vmem, ⟨7, _⟩ => ⟨S3x2x256x2048, .f32⟩
  | .local _ .vmem, ⟨8, _⟩ => ⟨S3x2x256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v13 : BitVec 32 := Scalar.muli v2 c512_i32
  let c0_i32_11 : BitVec 32 := 0#32
  ![v13.toNat, 0]
def k0_off2 (d0 : Dev nD) : Fin 2 → Nat :=
  let c2048_i32 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_10 : BitVec 32 := 512#32
  let v14 : BitVec 32 := Scalar.muli v2 c512_i32_10
  let v15 : BitVec 32 := Scalar.addi c2048_i32 v14
  let c0_i32_12 : BitVec 32 := 0#32
  ![v15.toNat, 0]
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_25 : BitVec 32 := 1#32
  let v26 : BitVec 32 := Scalar.muli v7 c1_i32_25
  let v27 : BitVec 32 := Scalar.addi c0_i32_26 v26
  v27.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_45 : BitVec 32 := 1#32
  let v44 : BitVec 32 := Scalar.muli v5 c1_i32_45
  let v45 : BitVec 32 := Scalar.addi c0_i32_46 v44
  v45.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_62 : BitVec 32 := 1#32
  let v61 : BitVec 32 := Scalar.muli v7 c1_i32_62
  let v62 : BitVec 32 := Scalar.addi c0_i32_63 v61
  v62.toNat
def k0_dev6 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_81 : BitVec 32 := 1#32
  let v78 : BitVec 32 := Scalar.muli v5 c1_i32_81
  let v79 : BitVec 32 := Scalar.addi c0_i32_82 v78
  v79.toNat
def k0_off3 (d0 : Dev nD) (c0_i32_87 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v88 : BitVec 32 := Scalar.addi v2 c8_i32
  let v89 : BitVec 32 := Scalar.subi v88 c0_i32_87
  let c1_i32_88 : BitVec 32 := 1#32
  let v90 : BitVec 32 := Scalar.subi v89 c1_i32_88
  let c4_i32_89 : BitVec 32 := 4#32
  let v91 : BitVec 32 := Scalar.remsi v90 c4_i32_89
  let c512_i32_93 : BitVec 32 := 512#32
  let v95 : BitVec 32 := Scalar.muli v91 c512_i32_93
  let c0_i32_96 : BitVec 32 := 0#32
  ![v95.toNat, 0]
def k0_off4 (d0 : Dev nD) (c0_i32_90 : BitVec 32) : Fin 2 → Nat :=
  let c2048_i32_95 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v92 : BitVec 32 := Scalar.addi v2 c0_i32_90
  let c1_i32_91 : BitVec 32 := 1#32
  let v93 : BitVec 32 := Scalar.addi v92 c1_i32_91
  let c4_i32_92 : BitVec 32 := 4#32
  let v94 : BitVec 32 := Scalar.remsi v93 c4_i32_92
  let c512_i32_94 : BitVec 32 := 512#32
  let v96 : BitVec 32 := Scalar.muli v94 c512_i32_94
  let v97 : BitVec 32 := Scalar.addi c2048_i32_95 v96
  let c0_i32_97 : BitVec 32 := 0#32
  ![v97.toNat, 0]
def k0_dev7 (d0 : Dev nD) : Nat :=
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_179 : BitVec 32 := 1#32
  let v158 : BitVec 32 := Scalar.muli v7 c1_i32_179
  let v159 : BitVec 32 := Scalar.addi c0_i32_180 v158
  v159.toNat
def k0_dev8 (d0 : Dev nD) : Nat :=
  let c0_i32_191 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_190 : BitVec 32 := 1#32
  let v168 : BitVec 32 := Scalar.muli v5 c1_i32_190
  let v169 : BitVec 32 := Scalar.addi c0_i32_191 v168
  v169.toNat
def k0_dev9 (d0 : Dev nD) : Nat :=
  let c0_i32_261 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_260 : BitVec 32 := 1#32
  let v220 : BitVec 32 := Scalar.muli v7 c1_i32_260
  let v221 : BitVec 32 := Scalar.addi c0_i32_261 v220
  v221.toNat
def k0_dev10 (d0 : Dev nD) : Nat :=
  let c0_i32_272 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_271 : BitVec 32 := 1#32
  let v230 : BitVec 32 := Scalar.muli v5 c1_i32_271
  let v231 : BitVec 32 := Scalar.addi c0_i32_272 v230
  v231.toNat
def k0_dev11 (d0 : Dev nD) : Nat :=
  let c0_i32_371 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_370 : BitVec 32 := 1#32
  let v310 : BitVec 32 := Scalar.muli v7 c1_i32_370
  let v311 : BitVec 32 := Scalar.addi c0_i32_371 v310
  v311.toNat
def k0_dev12 (d0 : Dev nD) : Nat :=
  let c0_i32_382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_381 : BitVec 32 := 1#32
  let v320 : BitVec 32 := Scalar.muli v5 c1_i32_381
  let v321 : BitVec 32 := Scalar.addi c0_i32_382 v320
  v321.toNat
def k0_dev13 (d0 : Dev nD) : Nat :=
  let c0_i32_452 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_451 : BitVec 32 := 1#32
  let v372 : BitVec 32 := Scalar.muli v7 c1_i32_451
  let v373 : BitVec 32 := Scalar.addi c0_i32_452 v372
  v373.toNat
def k0_dev14 (d0 : Dev nD) : Nat :=
  let c0_i32_463 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_462 : BitVec 32 := 1#32
  let v382 : BitVec 32 := Scalar.muli v5 c1_i32_462
  let v383 : BitVec 32 := Scalar.addi c0_i32_463 v382
  v383.toNat
def k0_off5 (d0 : Dev nD) (c0_i32_561 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_555 : BitVec 32 := 1#32
  let v462 : BitVec 32 := Scalar.addi v2 c1_i32_555
  let c4_i32_556 : BitVec 32 := 4#32
  let v463 : BitVec 32 := Scalar.remsi v462 c4_i32_556
  let c512_i32_560 : BitVec 32 := 512#32
  let v467 : BitVec 32 := Scalar.muli v463 c512_i32_560
  let v468 : BitVec 32 := Scalar.addi v467 c0_i32_561
  let c0_i32_569 : BitVec 32 := 0#32
  ![v468.toNat, 0]
def k0_dev15 (d0 : Dev nD) : Nat :=
  let c0_i32_568 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_567 : BitVec 32 := 1#32
  let v472 : BitVec 32 := Scalar.muli v7 c1_i32_567
  let v473 : BitVec 32 := Scalar.addi c0_i32_568 v472
  v473.toNat
def k0_off6 (d0 : Dev nD) (c0_i32_564 : BitVec 32) : Fin 2 → Nat :=
  let c2048_i32_563 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_557 : BitVec 32 := 4#32
  let v464 : BitVec 32 := Scalar.addi v2 c4_i32_557
  let c1_i32_558 : BitVec 32 := 1#32
  let v465 : BitVec 32 := Scalar.subi v464 c1_i32_558
  let c4_i32_559 : BitVec 32 := 4#32
  let v466 : BitVec 32 := Scalar.remsi v465 c4_i32_559
  let c512_i32_562 : BitVec 32 := 512#32
  let v469 : BitVec 32 := Scalar.muli v466 c512_i32_562
  let v470 : BitVec 32 := Scalar.addi c2048_i32_563 v469
  let v471 : BitVec 32 := Scalar.addi v470 c0_i32_564
  let c0_i32_577 : BitVec 32 := 0#32
  ![v471.toNat, 0]
def k0_dev16 (d0 : Dev nD) : Nat :=
  let c0_i32_576 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_575 : BitVec 32 := 1#32
  let v481 : BitVec 32 := Scalar.muli v5 c1_i32_575
  let v482 : BitVec 32 := Scalar.addi c0_i32_576 v481
  v482.toNat
def k0_dev17 (d0 : Dev nD) : Nat :=
  let c0_i32_647 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_646 : BitVec 32 := 1#32
  let v537 : BitVec 32 := Scalar.muli v7 c1_i32_646
  let v538 : BitVec 32 := Scalar.addi c0_i32_647 v537
  v538.toNat
def k0_dev18 (d0 : Dev nD) : Nat :=
  let c0_i32_655 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_654 : BitVec 32 := 1#32
  let v546 : BitVec 32 := Scalar.muli v5 c1_i32_654
  let v547 : BitVec 32 := Scalar.addi c0_i32_655 v546
  v547.toNat
def k0_off7 (d0 : Dev nD) (c1_i32_687 : BitVec 32) (c0_i32_712 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_685 : BitVec 32 := 8#32
  let v577 : BitVec 32 := Scalar.addi v2 c8_i32_685
  let c1_i32_686 : BitVec 32 := 1#32
  let v578 : BitVec 32 := Scalar.addi v577 c1_i32_686
  let v579 : BitVec 32 := Scalar.subi v578 c1_i32_687
  let c4_i32_688 : BitVec 32 := 4#32
  let v580 : BitVec 32 := Scalar.remsi v579 c4_i32_688
  let c512_i32_711 : BitVec 32 := 512#32
  let v601 : BitVec 32 := Scalar.muli v580 c512_i32_711
  let v602 : BitVec 32 := Scalar.addi v601 c0_i32_712
  let c0_i32_723 : BitVec 32 := 0#32
  ![v602.toNat, 0]
def k0_dev19 (d0 : Dev nD) : Nat :=
  let c0_i32_722 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_721 : BitVec 32 := 1#32
  let v609 : BitVec 32 := Scalar.muli v7 c1_i32_721
  let v610 : BitVec 32 := Scalar.addi c0_i32_722 v609
  v610.toNat
def k0_off8 (d0 : Dev nD) (c1_i32_691 : BitVec 32) (c0_i32_718 : BitVec 32) : Fin 2 → Nat :=
  let c2048_i32_717 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_689 : BitVec 32 := 8#32
  let v581 : BitVec 32 := Scalar.addi v2 c8_i32_689
  let c1_i32_690 : BitVec 32 := 1#32
  let v582 : BitVec 32 := Scalar.subi v581 c1_i32_690
  let v583 : BitVec 32 := Scalar.addi v582 c1_i32_691
  let c4_i32_692 : BitVec 32 := 4#32
  let v584 : BitVec 32 := Scalar.remsi v583 c4_i32_692
  let c512_i32_716 : BitVec 32 := 512#32
  let v606 : BitVec 32 := Scalar.muli v584 c512_i32_716
  let v607 : BitVec 32 := Scalar.addi c2048_i32_717 v606
  let v608 : BitVec 32 := Scalar.addi v607 c0_i32_718
  let c0_i32_729 : BitVec 32 := 0#32
  ![v608.toNat, 0]
def k0_dev20 (d0 : Dev nD) : Nat :=
  let c0_i32_728 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_727 : BitVec 32 := 1#32
  let v617 : BitVec 32 := Scalar.muli v5 c1_i32_727
  let v618 : BitVec 32 := Scalar.addi c0_i32_728 v617
  v618.toNat
def k0_dev21 (d0 : Dev nD) : Nat :=
  let c0_i32_759 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_758 : BitVec 32 := 1#32
  let v649 : BitVec 32 := Scalar.muli v7 c1_i32_758
  let v650 : BitVec 32 := Scalar.addi c0_i32_759 v649
  v650.toNat
def k0_dev22 (d0 : Dev nD) : Nat :=
  let c0_i32_765 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_764 : BitVec 32 := 1#32
  let v657 : BitVec 32 := Scalar.muli v5 c1_i32_764
  let v658 : BitVec 32 := Scalar.addi c0_i32_765 v657
  v658.toNat
def k0_dev23 (d0 : Dev nD) : Nat :=
  let c0_i32_800 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_799 : BitVec 32 := 1#32
  let v695 : BitVec 32 := Scalar.muli v7 c1_i32_799
  let v696 : BitVec 32 := Scalar.addi c0_i32_800 v695
  v696.toNat
def k0_dev24 (d0 : Dev nD) : Nat :=
  let c0_i32_806 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_805 : BitVec 32 := 1#32
  let v703 : BitVec 32 := Scalar.muli v5 c1_i32_805
  let v704 : BitVec 32 := Scalar.addi c0_i32_806 v703
  v704.toNat
def k0_dev25 (d0 : Dev nD) : Nat :=
  let c0_i32_833 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_832 : BitVec 32 := 1#32
  let v733 : BitVec 32 := Scalar.muli v7 c1_i32_832
  let v734 : BitVec 32 := Scalar.addi c0_i32_833 v733
  v734.toNat
def k0_dev26 (d0 : Dev nD) : Nat :=
  let c0_i32_839 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_838 : BitVec 32 := 1#32
  let v741 : BitVec 32 := Scalar.muli v5 c1_i32_838
  let v742 : BitVec 32 := Scalar.addi c0_i32_839 v741
  v742.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Ideal.Prog.lean ====
/-
The kernel's body retold as a short program over two directions.

The ring runs in two directions at once: clockwise (`false`, chunks of the top half of the rows, sent to the next
device) and counter-clockwise (`true`, chunks of the bottom half, sent to the device before). Each operation of the
body is one of a few kinds, named here with the direction and the indices as arguments; `prog` lists them in program
order and `body_eq` states that the printed body is `prog`, by unfolding both.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Proofs

open Cert.KernelIdeal Cert.KernelIdeal.Gen
open Idealize.ShloMosaic Idealize.ShloMosaic.TcCoe Idealize.SL.Sem

variable {F : FTy → Type} [FloatOps F]

/-! ## The buffers, by direction -/

/-- The device's columns of `x`. -/
abbrev xM : Memref sig .tc .hbm S4096x1024 .f32 := Memref.whole main_arg0
/-- The device's rows of `w`, staged. -/
abbrev wM : Memref sig .tc .vmem S1024x2048 .f32 := Memref.whole cc0_stg0_0
/-- The result. -/
abbrev outM : Memref sig .tc .hbm S4096x2048 .f32 := Memref.whole main_v1

/-- The buffer a chunk of `x` is loaded into. -/
abbrev xcR (e : Bool) : Ref sig .tc := ⟨.vmem, if e then 2 else 1, by cases e <;> rfl⟩
/-- The chunk's buffer as a memref. -/
def xcM : Bool → Memref sig .tc .vmem S512x1024 .f32
  | false => Memref.whole cc0_scratch0
  | true => Memref.whole cc0_scratch1
/-- The two running sums, one per half of a chunk. -/
def sM : Bool → Memref sig .tc .vmem S2x256x2048 .f32
  | false => Memref.whole cc0_scratch2
  | true => Memref.whole cc0_scratch3
/-- The partial product of the chunk just loaded. -/
def pM : Bool → Memref sig .tc .vmem S512x2048 .f32
  | false => Memref.whole cc0_scratch4
  | true => Memref.whole cc0_scratch5
/-- The landing slots of the reduction's three steps. -/
def rM : Bool → Memref sig .tc .vmem S3x2x256x2048 .f32
  | false => Memref.whole cc0_scratch6
  | true => Memref.whole cc0_scratch7
/-- The semaphore of the direction's local copies. -/
def lS : Bool → DmaSems sig S_
  | false => cc0_scratch8
  | true => cc0_scratch9
/-- The semaphores the direction's remote copies signal at their source, -/
def sndA : Bool → DmaSems sig S12
  | false => cc0_scratch10
  | true => cc0_scratch12
/-- and at their target. -/
def rcvA : Bool → DmaSems sig S12
  | false => cc0_scratch11
  | true => cc0_scratch13

theorem xc_wordExact (e : Bool) : (xcM e).view.WordExact := by
  cases e <;> exact (Memref.isWhole_whole _).wordExact

theorem inb_k {k : ℕ} (h : k < 12) : ∀ a, (![k] : Fin 1 → Nat) a + S1.size a ≤ S12.size a :=
  Rect.inb₁ h
theorem inb_s {j : ℕ} (h : j < 2) : ∀ a, (![j, 0, 0] : Fin 3 → Nat) a + S1x256x2048.size a ≤ S2x256x2048.size a := by
  intro a; fin_cases a
  · exact h
  · exact Nat.le_refl _
  · exact Nat.le_refl _
theorem inb_r {s j : ℕ} (hs : s < 3) (h : j < 2) :
    ∀ a, (![s, j, 0, 0] : Fin 4 → Nat) a + S1x1x256x2048.size a ≤ S3x2x256x2048.size a := by
  intro a; fin_cases a
  · exact hs
  · exact h
  · exact Nat.le_refl _
  · exact Nat.le_refl _
theorem inb_p {j : ℕ} (h : j < 2) : ∀ a, (![256 * j, 0] : Fin 2 → Nat) a + S256x2048.size a ≤ S512x2048.size a := by
  intro a; fin_cases a
  · show 256 * j + 256 ≤ 512; omega
  · exact Nat.le_refl _
theorem inb_xc {j : ℕ} (h : j < 2) : ∀ a, (![256 * j, 0] : Fin 2 → Nat) a + S256x1024.size a ≤ S512x1024.size a := by
  intro a; fin_cases a
  · show 256 * j + 256 ≤ 512; omega
  · exact Nat.le_refl _

/-- The semaphore of remote copy `k` at its source, -/
def sndS (e : Bool) (k : ℕ) (h : k < 12) : DmaSem sig :=
  (((sndA e).slice (Rect.unit (s := S12) ![k] S1.size (inb_k h))).squeeze S_ squeezes_S1_S_).sem
/-- and at its target. -/
def rcvS (e : Bool) (k : ℕ) (h : k < 12) : DmaSem sig :=
  (((rcvA e).slice (Rect.unit (s := S12) ![k] S1.size (inb_k h))).squeeze S_ squeezes_S1_S_).sem

/-- Half `j` of the running sums as a slice of the buffer, -/
def sL (e : Bool) (j : ℕ) (h : j < 2) : Memref sig .tc .vmem S1x256x2048 .f32 :=
  (sM e).slice (Rect.unit (s := S2x256x2048) ![j, 0, 0] S1x256x2048.size (inb_s h)) (fun _ => rfl)
/-- and with its unit axis dropped, as the copies name it. -/
def sV (e : Bool) (j : ℕ) (h : j < 2) : Memref sig .tc .vmem S256x2048 .f32 :=
  (sL e j h).squeeze S256x2048 squeezes_S1x256x2048_S256x2048
/-- The landing slot of step `s`, half `j`, as a slice of the buffer, -/
def rL (e : Bool) (s j : ℕ) (hs : s < 3) (h : j < 2) : Memref sig .tc .vmem S1x1x256x2048 .f32 :=
  (rM e).slice (Rect.unit (s := S3x2x256x2048) ![s, j, 0, 0] S1x1x256x2048.size (inb_r hs h)) (fun _ => rfl)
/-- and with its unit axes dropped. -/
def rV (e : Bool) (s j : ℕ) (hs : s < 3) (h : j < 2) : Memref sig .tc .vmem S256x2048 .f32 :=
  (rL e s j hs h).squeeze S256x2048 squeezes_S1x1x256x2048_S256x2048
/-- 256 rows of the result from `off`. -/
def oL (off : Fin 2 → ℕ) (h : ∀ a, off a + S256x2048.size a ≤ S4096x2048.size a) : Memref sig .tc .hbm S256x2048 .f32 :=
  outM.slice (Rect.unit (s := S4096x2048) off S256x2048.size h) (fun _ => rfl)
/-- 512 rows of `x` from `off`. -/
def xL (off : Fin 2 → ℕ) (h : ∀ a, off a + S512x1024.size a ≤ S4096x1024.size a) : Memref sig .tc .hbm S512x1024 .f32 :=
  xM.slice (Rect.unit (s := S4096x1024) off S512x1024.size h) (fun _ => rfl)

theorem sV_wordExact (e : Bool) (j : ℕ) (h : j < 2) : (sV e j h).view.WordExact :=
  ((View.wordExact_bits rfl).reshape _ _)
theorem rV_wordExact (e : Bool) (s j : ℕ) (hs : s < 3) (h : j < 2) : (rV e s j hs h).view.WordExact :=
  ((View.wordExact_bits rfl).reshape _ _)
theorem oL_wordExact (off : Fin 2 → ℕ) (h) : (oL off h).view.WordExact := View.wordExact_bits rfl
theorem xL_wordExact (off : Fin 2 → ℕ) (h) : (xL off h).view.WordExact := View.wordExact_bits rfl

/-! ## The values the body computes -/

/-- 256 rows of a chunk against the device's rows of `w`. -/
def dot256 (x : Vec F S256x1024 .f32) (w : Vec F S1024x2048 .f32) : FVec F S256x2048 .f32 :=
  matmul dot_S256x1024_S1024x2048_S256x2048_1_0_0_1_n_n none x (shapeCast S1024x2048 w shapeCasts_S1024x2048_S1024x2048)
    (constant S256x2048 .f32 0x00000000#32)
/-- A whole chunk against the device's rows of `w`. -/
def dot512 (x : Vec F S512x1024 .f32) (w : Vec F S1024x2048 .f32) : FVec F S512x2048 .f32 :=
  matmul dot_S512x1024_S1024x2048_S512x2048_1_0_0_1_n_n none x (shapeCast S1024x2048 w shapeCasts_S1024x2048_S1024x2048)
    (constant S512x2048 .f32 0x00000000#32)

/-! ## The operations -/

/-- The programs of the body. -/
abbrev PR (F : FTy → Type) (α : Type) : Type 1 := Prog (TpuEff nD τ sig (Elt F) Λ₀ .tc) α

/-- Signal the device before and the device after, wait for both. -/
def entry (a b : Dev nD) : PR F PUnit := do
  semSignalWord a (SemArray.scalar (sig.barrier 0 rfl) : Sems sig S_).sem 1#32
  semSignalWord b (SemArray.scalar (sig.barrier 0 rfl) : Sems sig S_).sem 1#32
  semWaitWord (SemArray.scalar (sig.barrier 0 rfl) : Sems sig S_).sem 2#32

/-- Start the load of a chunk of `x`. -/
def loadX (e : Bool) (off : Fin 2 → ℕ) (h : ∀ a, off a + S512x1024.size a ≤ S4096x1024.size a) : PR F PUnit :=
  Prog.lift (.enqueueDma (xL off h) (.here (xcM e)) (.dma (lS e).sem) (xL_wordExact off h) (xc_wordExact e) ⟨Or.inl rfl, trivial⟩)

/-- Wait for a local copy, or for a remote one at either end: the semaphore, and two memrefs of which the second is
    of the copy's size. -/
def waitD {sp sp' : Space} {s s' : Shape} (m : DmaSem sig) (a : Memref sig .tc sp s .f32) (b : Memref sig .tc sp' s' .f32)
    (ha : a.view.WordExact) (hb : b.view.WordExact) : PR F PUnit :=
  Prog.lift (.waitDma2 m a b ha hb)

/-- Half `j` of the first chunk's product, into the running sum. -/
def dot0 (e : Bool) (j : ℕ) (h : j < 2) : PR F PUnit := do
  let x ← Prog.lift (.load (xcM e) (Rect.unit (s := S512x1024) ![256 * j, 0] S256x1024.size (inb_xc h)).toLoadRect (View.loadsAt_vmem h_S256x1024))
  let w ← Prog.lift (.load wM (Rect.unit (s := S1024x2048) ![0, 0] S1024x2048.size inb_S1024x2048_S1024x2048_0_0).toLoadRect (View.loadsAt_vmem h_S1024x2048))
  let _ ← Prog.lift (.load (sM e) (Rect.unit (s := S2x256x2048) ![j, 0, 0] S1x256x2048.size (inb_s h)).toLoadRect (View.loadsAt_vmem h_S1x256x2048))
  Prog.lift (.store (sM e) (Rect.unit (s := S2x256x2048) ![j, 0, 0] S1x256x2048.size (inb_s h))
    (shapeCast S1x256x2048 (dot256 x w) shapeCasts_S256x2048_S1x256x2048) Finset.univ (View.stores_vmem_bits_univ h_S1x256x2048 rfl) (.inl rfl))

/-- A chunk's product. -/
def dotP (e : Bool) : PR F PUnit := do
  let x ← Prog.lift (.load (xcM e) (Rect.unit (s := S512x1024) ![0, 0] S512x1024.size inb_S512x1024_S512x1024_0_0).toLoadRect (View.loadsAt_vmem h_S512x1024))
  let w ← Prog.lift (.load wM (Rect.unit (s := S1024x2048) ![0, 0] S1024x2048.size inb_S1024x2048_S1024x2048_0_0).toLoadRect (View.loadsAt_vmem h_S1024x2048))
  let _ ← Prog.lift (.load (pM e) (Rect.unit (s := S512x2048) ![0, 0] S512x2048.size inb_S512x2048_S512x2048_0_0).toLoadRect (View.loadsAt_vmem h_S512x2048))
  Prog.lift (.store (pM e) (Rect.unit (s := S512x2048) ![0, 0] S512x2048.size inb_S512x2048_S512x2048_0_0)
    (shapeCast S512x2048 (dot512 x w) shapeCasts_S512x2048_S512x2048) Finset.univ (View.stores_vmem_bits_univ h_S512x2048 rfl) (.inl rfl))

/-- Half `j` of the chunk's product plus what landed in step `s`, into the running sum. -/
def addP (e : Bool) (s j : ℕ) (hs : s < 3) (h : j < 2) : PR F PUnit := do
  let p ← Prog.lift (.load (pM e) (Rect.unit (s := S512x2048) ![256 * j, 0] S256x2048.size (inb_p h)).toLoadRect (View.loadsAt_vmem h_S256x2048))
  let r ← Prog.lift (.load (rM e) (Rect.unit (s := S3x2x256x2048) ![s, j, 0, 0] S1x1x256x2048.size (inb_r hs h)).toLoadRect (View.loadsAt_vmem h_S1x1x256x2048))
  let _ ← Prog.lift (.load (sM e) (Rect.unit (s := S2x256x2048) ![j, 0, 0] S1x256x2048.size (inb_s h)).toLoadRect (View.loadsAt_vmem h_S1x256x2048))
  Prog.lift (.store (sM e) (Rect.unit (s := S2x256x2048) ![j, 0, 0] S1x256x2048.size (inb_s h))
    (shapeCast S1x256x2048 (addf p (shapeCast S256x2048 r shapeCasts_S1x1x256x2048_S256x2048)) shapeCasts_S256x2048_S1x256x2048)
    Finset.univ (View.stores_vmem_bits_univ h_S1x256x2048 rfl) (.inl rfl))

/-- Remote copy `k` of a direction to device `n`. -/
def send (e : Bool) (k : ℕ) (hk : k < 12) (n : Dev nD) {sp sp' : Space} (a : Memref sig .tc sp S256x2048 .f32) (b : Memref sig .tc sp' S256x2048 .f32)
    (ha : a.view.WordExact) (hb : b.view.WordExact) (hsc : b.view.ref.isScScratch = false)
    (ht : DmaTarget.Typed (p := Proc.tc) sp (.dma (rcvS e k hk)) (.remote (Dev.tc n : Thread nD τ) b (.dma (sndS e k hk)) hsc)) : PR F PUnit :=
  Prog.lift (.enqueueDma a (.remote (Dev.tc n) b (.dma (sndS e k hk)) hsc) (.dma (rcvS e k hk)) ha hb ht)

/-- The reduction's step `s`: half `j` of the running sum to the neighbour's landing slot. -/
def sendR (e : Bool) (s j : ℕ) (hs : s < 3) (h : j < 2) (n : Dev nD) : PR F PUnit :=
  send e (2 * s + j) (by omega) n (sV e j h) (rV e s j hs h) (sV_wordExact e j h) (rV_wordExact e s j hs h) (by cases e <;> rfl) ⟨⟨rfl, Or.inl rfl⟩, trivial⟩

/-- The gather's first step: half `j` of the finished chunk to the neighbour's result. -/
def sendG (e : Bool) (j : ℕ) (h : j < 2) (off : Fin 2 → ℕ) (hb : ∀ a, off a + S256x2048.size a ≤ S4096x2048.size a) (n : Dev nD) : PR F PUnit :=
  send e (6 + j) (by omega) n (sV e j h) (oL off hb) (sV_wordExact e j h) (oL_wordExact off hb) rfl ⟨⟨rfl, Or.inl rfl⟩, trivial⟩

/-- The gather's later steps: rows of the result to the same rows of the neighbour's. -/
def sendF (e : Bool) (k : ℕ) (hk : k < 12) (off : Fin 2 → ℕ) (hb : ∀ a, off a + S256x2048.size a ≤ S4096x2048.size a) (n : Dev nD) : PR F PUnit :=
  send e k hk n (oL off hb) (oL off hb) (oL_wordExact off hb) (oL_wordExact off hb) rfl ⟨⟨rfl, Or.inl rfl⟩, trivial⟩

/-- One half of one direction of a reduction step: both ends of the step's copy done, then the sum. -/
def recvAdd (e : Bool) (s j : ℕ) (hs : s < 3) (h : j < 2) : PR F PUnit := do
  waitD (sndS e (2 * s + j) (by omega)) (rV e s j hs h) (sV e j h) (rV_wordExact e s j hs h) (sV_wordExact e j h)
  waitD (rcvS e (2 * s + j) (by omega)) (sV e j h) (rV e s j hs h) (sV_wordExact e j h) (rV_wordExact e s j hs h)
  addP e s j hs h

/-- The loads and products of a reduction step. -/
def stepDots (o₁ o₂ : Fin 2 → ℕ) (h₁ : ∀ a, o₁ a + S512x1024.size a ≤ S4096x1024.size a) (h₂ : ∀ a, o₂ a + S512x1024.size a ≤ S4096x1024.size a) : PR F PUnit := do
  loadX false o₁ h₁
  loadX true o₂ h₂
  waitD (lS false).sem (xL o₁ h₁) (xcM false) (xL_wordExact _ _) (xc_wordExact _)
  dotP false
  waitD (lS true).sem (xL o₂ h₂) (xcM true) (xL_wordExact _ _) (xc_wordExact _)
  dotP true

/-- Store half `j` of the finished chunk to the device's own result. -/
def storeO (e : Bool) (j : ℕ) (h : j < 2) (off : Fin 2 → ℕ) (hb : ∀ a, off a + S256x2048.size a ≤ S4096x2048.size a) : PR F PUnit :=
  Prog.lift (.enqueueDma (sV e j h) (.here (oL off hb)) (.dma (lS e).sem) (sV_wordExact e j h) (oL_wordExact off hb) ⟨Or.inl rfl, trivial⟩)

/-- The wait for the gather's first copy, at its target. -/
def recvG (e : Bool) (j : ℕ) (h : j < 2) (off : Fin 2 → ℕ) (hb : ∀ a, off a + S256x2048.size a ≤ S4096x2048.size a) : PR F PUnit :=
  waitD (rcvS e (6 + j) (by omega)) (sV e j h) (oL off hb) (sV_wordExact e j h) (oL_wordExact off hb)
/-- and at its source. -/
def sentG (e : Bool) (j : ℕ) (h : j < 2) (off : Fin 2 → ℕ) (hb : ∀ a, off a + S256x2048.size a ≤ S4096x2048.size a) : PR F PUnit :=
  waitD (sndS e (6 + j) (by omega)) (oL off hb) (sV e j h) (oL_wordExact off hb) (sV_wordExact e j h)
/-- The wait for a later copy of the gather, at its target, -/
def recvF (e : Bool) (k : ℕ) (hk : k < 12) (off : Fin 2 → ℕ) (hb : ∀ a, off a + S256x2048.size a ≤ S4096x2048.size a) : PR F PUnit :=
  waitD (rcvS e k hk) (oL off hb) (oL off hb) (oL_wordExact off hb) (oL_wordExact off hb)
/-- and at its source. -/
def sentF (e : Bool) (k : ℕ) (hk : k < 12) (off : Fin 2 → ℕ) (hb : ∀ a, off a + S256x2048.size a ≤ S4096x2048.size a) : PR F PUnit :=
  waitD (sndS e k hk) (oL off hb) (oL off hb) (oL_wordExact off hb) (oL_wordExact off hb)
/-- The wait for a local store. -/
def stored (e : Bool) (j : ℕ) (h : j < 2) (off : Fin 2 → ℕ) (hb : ∀ a, off a + S256x2048.size a ≤ S4096x2048.size a) : PR F PUnit :=
  waitD (lS e).sem (sV e j h) (oL off hb) (sV_wordExact e j h) (oL_wordExact off hb)

/-! ## The body -/

/-- The first chunks' products, each half sent on as soon as it is there. -/
def phase0 (d0 : Dev nD) : PR F PUnit := do
  loadX false (k0_off1 d0) (k0_off1_inb d0)
  loadX true (k0_off2 d0) (k0_off2_inb d0)
  waitD (lS false).sem (xL (k0_off1 d0) (k0_off1_inb d0)) (xcM false) (xL_wordExact _ _) (xc_wordExact _)
  dot0 false 0 (by decide)
  sendR false 0 0 (by decide) (by decide) ⟨k0_dev3 d0, k0_dev3_lt d0⟩
  waitD (lS true).sem (xL (k0_off2 d0) (k0_off2_inb d0)) (xcM true) (xL_wordExact _ _) (xc_wordExact _)
  dot0 true 0 (by decide)
  sendR true 0 0 (by decide) (by decide) ⟨k0_dev4 d0, k0_dev4_lt d0⟩
  dot0 false 1 (by decide)
  sendR false 0 1 (by decide) (by decide) ⟨k0_dev5 d0, k0_dev5_lt d0⟩
  dot0 true 1 (by decide)
  sendR true 0 1 (by decide) (by decide) ⟨k0_dev6 d0, k0_dev6_lt d0⟩

/-- A reduction step that sends its sums on to the next one. -/
def phaseR (s : ℕ) (hs : s + 1 < 3) (o₁ o₂ : Fin 2 → ℕ) (h₁ : ∀ a, o₁ a + S512x1024.size a ≤ S4096x1024.size a) (h₂ : ∀ a, o₂ a + S512x1024.size a ≤ S4096x1024.size a)
    (n₁ n₂ n₃ n₄ : Dev nD) : PR F PUnit := do
  stepDots o₁ o₂ h₁ h₂
  recvAdd false s 0 (by omega) (by decide)
  recvAdd true s 0 (by omega) (by decide)
  sendR false (s + 1) 0 hs (by decide) n₁
  sendR true (s + 1) 0 hs (by decide) n₂
  recvAdd false s 1 (by omega) (by decide)
  recvAdd true s 1 (by omega) (by decide)
  sendR false (s + 1) 1 hs (by decide) n₃
  sendR true (s + 1) 1 hs (by decide) n₄

/-- The last reduction step: its sums are finished chunks, sent into the neighbours' results. -/
def phaseL (d0 : Dev nD) : PR F PUnit := do
  stepDots (k0_off3 d0 2#32) (k0_off4 d0 2#32) (k0_off3_inb d0 2) (k0_off4_inb d0 2)
  recvAdd false 2 0 (by decide) (by decide)
  recvAdd true 2 0 (by decide) (by decide)
  sendG false 0 (by decide) (k0_off5 d0 0#32) (k0_off5_inb d0 0) ⟨k0_dev15 d0, k0_dev15_lt d0⟩
  sendG true 0 (by decide) (k0_off6 d0 0#32) (k0_off6_inb d0 0) ⟨k0_dev16 d0, k0_dev16_lt d0⟩
  recvAdd false 2 1 (by decide) (by decide)
  recvAdd true 2 1 (by decide) (by decide)
  sendG false 1 (by decide) (k0_off5 d0 256#32) (k0_off5_inb d0 1) ⟨k0_dev17 d0, k0_dev17_lt d0⟩
  sendG true 1 (by decide) (k0_off6 d0 256#32) (k0_off6_inb d0 1) ⟨k0_dev18 d0, k0_dev18_lt d0⟩

/-- The finished chunks into the device's own result. -/
def phaseS (d0 : Dev nD) : PR F PUnit := do
  storeO false 0 (by decide) (k0_off5 d0 0#32) (k0_off5_inb d0 0)
  storeO true 0 (by decide) (k0_off6 d0 0#32) (k0_off6_inb d0 0)
  storeO false 1 (by decide) (k0_off5 d0 256#32) (k0_off5_inb d0 1)
  storeO true 1 (by decide) (k0_off6 d0 256#32) (k0_off6_inb d0 1)

/-- The gather: what lands is sent on, twice. -/
def phaseG (d0 : Dev nD) : PR F PUnit := do
  recvG false 0 (by decide) (k0_off5 d0 0#32) (k0_off5_inb d0 0)
  recvG true 0 (by decide) (k0_off6 d0 0#32) (k0_off6_inb d0 0)
  sendF false 8 (by decide) (k0_off7 d0 1#32 0#32) (k0_off7_inb d0 0 0) ⟨k0_dev19 d0, k0_dev19_lt d0⟩
  sendF true 8 (by decide) (k0_off8 d0 1#32 0#32) (k0_off8_inb d0 0 0) ⟨k0_dev20 d0, k0_dev20_lt d0⟩
  recvG false 1 (by decide) (k0_off5 d0 256#32) (k0_off5_inb d0 1)
  recvG true 1 (by decide) (k0_off6 d0 256#32) (k0_off6_inb d0 1)
  sendF false 9 (by decide) (k0_off7 d0 1#32 256#32) (k0_off7_inb d0 0 1) ⟨k0_dev21 d0, k0_dev21_lt d0⟩
  sendF true 9 (by decide) (k0_off8 d0 1#32 256#32) (k0_off8_inb d0 0 1) ⟨k0_dev22 d0, k0_dev22_lt d0⟩
  recvF false 8 (by decide) (k0_off7 d0 1#32 0#32) (k0_off7_inb d0 0 0)
  recvF true 8 (by decide) (k0_off8 d0 1#32 0#32) (k0_off8_inb d0 0 0)
  sendF false 10 (by decide) (k0_off7 d0 2#32 0#32) (k0_off7_inb d0 1 0) ⟨k0_dev23 d0, k0_dev23_lt d0⟩
  sendF true 10 (by decide) (k0_off8 d0 2#32 0#32) (k0_off8_inb d0 1 0) ⟨k0_dev24 d0, k0_dev24_lt d0⟩
  recvF false 9 (by decide) (k0_off7 d0 1#32 256#32) (k0_off7_inb d0 0 1)
  recvF true 9 (by decide) (k0_off8 d0 1#32 256#32) (k0_off8_inb d0 0 1)
  sendF false 11 (by decide) (k0_off7 d0 2#32 256#32) (k0_off7_inb d0 1 1) ⟨k0_dev25 d0, k0_dev25_lt d0⟩
  sendF true 11 (by decide) (k0_off8 d0 2#32 256#32) (k0_off8_inb d0 1 1) ⟨k0_dev26 d0, k0_dev26_lt d0⟩
  recvF false 10 (by decide) (k0_off7 d0 2#32 0#32) (k0_off7_inb d0 1 0)
  recvF true 10 (by decide) (k0_off8 d0 2#32 0#32) (k0_off8_inb d0 1 0)
  recvF false 11 (by decide) (k0_off7 d0 2#32 256#32) (k0_off7_inb d0 1 1)
  recvF true 11 (by decide) (k0_off8 d0 2#32 256#32) (k0_off8_inb d0 1 1)

/-- The gather's copies done at their sources, then the local stores. -/
def phaseW (d0 : Dev nD) : PR F PUnit := do
  sentG false 0 (by decide) (k0_off5 d0 0#32) (k0_off5_inb d0 0)
  sentG true 0 (by decide) (k0_off6 d0 0#32) (k0_off6_inb d0 0)
  sentG false 1 (by decide) (k0_off5 d0 256#32) (k0_off5_inb d0 1)
  sentG true 1 (by decide) (k0_off6 d0 256#32) (k0_off6_inb d0 1)
  sentF false 8 (by decide) (k0_off7 d0 1#32 0#32) (k0_off7_inb d0 0 0)
  sentF true 8 (by decide) (k0_off8 d0 1#32 0#32) (k0_off8_inb d0 0 0)
  sentF false 9 (by decide) (k0_off7 d0 1#32 256#32) (k0_off7_inb d0 0 1)
  sentF true 9 (by decide) (k0_off8 d0 1#32 256#32) (k0_off8_inb d0 0 1)
  sentF false 10 (by decide) (k0_off7 d0 2#32 0#32) (k0_off7_inb d0 1 0)
  sentF true 10 (by decide) (k0_off8 d0 2#32 0#32) (k0_off8_inb d0 1 0)
  sentF false 11 (by decide) (k0_off7 d0 2#32 256#32) (k0_off7_inb d0 1 1)
  sentF true 11 (by decide) (k0_off8 d0 2#32 256#32) (k0_off8_inb d0 1 1)
  stored false 0 (by decide) (k0_off5 d0 0#32) (k0_off5_inb d0 0)
  stored true 0 (by decide) (k0_off6 d0 0#32) (k0_off6_inb d0 0)
  stored false 1 (by decide) (k0_off5 d0 256#32) (k0_off5_inb d0 1)
  stored true 1 (by decide) (k0_off6 d0 256#32) (k0_off6_inb d0 1)

/-- The body on the device `d0`. -/
def progAt (d0 : Dev nD) : PR F PUnit := do
  entry ⟨k0_dev1 d0, k0_dev1_lt d0⟩ ⟨k0_dev2 d0, k0_dev2_lt d0⟩
  phase0 d0
  phaseR 0 (by decide) (k0_off3 d0 0#32) (k0_off4 d0 0#32) (k0_off3_inb d0 0) (k0_off4_inb d0 0)
    ⟨k0_dev7 d0, k0_dev7_lt d0⟩ ⟨k0_dev8 d0, k0_dev8_lt d0⟩ ⟨k0_dev9 d0, k0_dev9_lt d0⟩ ⟨k0_dev10 d0, k0_dev10_lt d0⟩
  phaseR 1 (by decide) (k0_off3 d0 1#32) (k0_off4 d0 1#32) (k0_off3_inb d0 1) (k0_off4_inb d0 1)
    ⟨k0_dev11 d0, k0_dev11_lt d0⟩ ⟨k0_dev12 d0, k0_dev12_lt d0⟩ ⟨k0_dev13 d0, k0_dev13_lt d0⟩ ⟨k0_dev14 d0, k0_dev14_lt d0⟩
  phaseL d0
  phaseS d0
  phaseG d0
  phaseW d0

/-- The body: ask for the device's number, then run on it. -/
def prog : PR F PUnit := do
  let d0 ← Prog.lift .deviceId
  progAt d0

set_option maxRecDepth 65536 in
/-- The printed body at the launch's buffers is `prog`. -/
theorem body_eq : cc0_body (F := F) (Memref.whole main_arg0) (Memref.isWhole_whole _) (Memref.whole cc0_stg0_0) (Memref.isWhole_whole _) (Memref.whole main_v1)
    (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4)
    (Memref.isWhole_whole _) (Memref.whole cc0_scratch5) (Memref.isWhole_whole _) (Memref.whole cc0_scratch6) (Memref.isWhole_whole _)
    (Memref.whole cc0_scratch7) (Memref.isWhole_whole _) cc0_scratch8 cc0_scratch9 cc0_scratch10 cc0_scratch11 cc0_scratch12 cc0_scratch13 = prog (F := F) := by
  rw [cc0_body_eq_skeleton]
  rfl

end Cert.KernelIdeal.Proofs

end
-- ==== Proof.Ideal.Sched.lean ====
/-
The protocol of the two rings: which device writes where and when, what each semaphore's arrival hands over, and what
each device owes. The 24 remote copies a device starts are numbered `i = 2 * k + e` in program order, `k` the copy's
number in its direction and `e` the direction (`dir i`).
-/
module

public import proofs.«01_k».proof.Proof.Ideal.Prog
public import Idealize.ShloMosaic.Lib.Pipeline.Launch
public import Idealize.ShloMosaic.Lib.Pipeline.Kit
public import Idealize.ShloMosaic.Lib.Tactic

@[expose] public section

noncomputable section

namespace Cert.KernelIdeal.Proofs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy, the ring's rounds, the counters of the local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the ring's rounds live. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- Where the counters of the local copies live. -/
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev 𝒱₀ : Variants := Variants.none

/-! ## The rings -/

/-- The device `t` steps against direction `e` from `c`: `t` before it clockwise, `t` after it counter-clockwise. It is
    also the number of the chunk that direction `e` works on at step `t` on device `c`. -/
def ch (e : Bool) (c : Dev nD) (t : ℕ) : Dev nD :=
  ⟨(if e then c.val + t else c.val + 3 * t) % 4, Nat.mod_lt _ (by decide)⟩

theorem ch_val (e : Bool) (c : Dev nD) (t : ℕ) : (ch e c t).val = (if e then c.val + t else c.val + 3 * t) % 4 := rfl

theorem ch_ch (e : Bool) (c : Dev nD) (a b : ℕ) : ch e (ch e c a) b = ch e c (a + b) := by
  apply Fin.ext; simp only [ch_val]; cases e <;> simp <;> omega

theorem ch_four (e : Bool) (c : Dev nD) (t : ℕ) : ch e c (t + 4) = ch e c t := by
  apply Fin.ext; simp only [ch_val]; cases e <;> simp <;> omega

theorem ch_zero (e : Bool) (c : Dev nD) : ch e c 0 = c := by
  have := c.isLt
  apply Fin.ext; simp only [ch_val]; cases e <;> simp <;> omega

/-- One step back and three more are no step. -/
theorem ch_three_one (e : Bool) (c : Dev nD) : ch e (ch e c 3) 1 = c := by rw [ch_ch, ch_four e c 0, ch_zero]
theorem ch_one_three (e : Bool) (c : Dev nD) : ch e (ch e c 1) 3 = c := by rw [ch_ch, ch_four e c 0, ch_zero]

/-- The direction of copy `i`. -/
def dir (i : ℕ) : Bool := decide (i % 2 = 1)

/-! ## The contents -/

/-- Device `c`'s columns of `x`. -/
def xin (c : Dev nD) : Vec F S4096x1024 .f32 := xM.view.read (Elt F) ((s₀ m ρ).mem ((c : Thread nD τ).loc main_arg0))
/-- Device `c`'s rows of `w`. -/
def win (c : Dev nD) : Vec F S1024x2048 .f32 := (win0_0.blk (0 : Fin 1)).view.read (Elt F) ((s₀ m ρ).mem ((c : Thread nD τ).loc main_arg1))

/-- The first row of direction `e`'s chunk `q`: the top half of the rows for the clockwise direction, the bottom half for
    the other. -/
def row0 (e : Bool) (q : Dev nD) : ℕ := 512 * q.val + (if e then 2048 else 0)

theorem row0_le (e : Bool) (q : Dev nD) : row0 e q + 512 ≤ 4096 := by
  have : q.val < 4 := q.isLt
  unfold row0; split <;> omega

theorem inb_x (e : Bool) (q : Dev nD) : ∀ a, (![row0 e q, 0] : Fin 2 → ℕ) a + S512x1024.size a ≤ S4096x1024.size a := by
  intro a; fin_cases a
  · exact row0_le e q
  · exact Nat.le_refl _
theorem inb_o (e : Bool) (q : Dev nD) {j : ℕ} (h : j < 2) :
    ∀ a, (![row0 e q + 256 * j, 0] : Fin 2 → ℕ) a + S256x2048.size a ≤ S4096x2048.size a := by
  intro a; fin_cases a
  · have := row0_le e q; show row0 e q + 256 * j + 256 ≤ 4096; omega
  · exact Nat.le_refl _

/-- Half `j` of chunk `q` of the result. -/
def oC (e : Bool) (q : Dev nD) (j : ℕ) (h : j < 2) : Memref sig .tc .hbm S256x2048 .f32 := oL ![row0 e q + 256 * j, 0] (inb_o e q h)

/-- Chunk `q` of device `c`'s columns of `x`. -/
def xch (c : Dev nD) (e : Bool) (q : Dev nD) : Vec F S512x1024 .f32 :=
  fun i => xin m ρ c ((Rect.unit (s := S4096x1024) ![row0 e q, 0] S512x1024.size (inb_x e q)).emb i)

/-- The partial product of half `j` of chunk `q` on device `c`, as the first step computes it, -/
def half0 (c : Dev nD) (e : Bool) (q : Dev nD) (j : ℕ) (h : j < 2) : Vec F S256x2048 .f32 :=
  dot256 (fun i => xch m ρ c e q ((Rect.unit (s := S512x1024) ![256 * j, 0] S256x1024.size (inb_xc h)).emb i)) (win m ρ c)
/-- and as the later steps do. -/
def halfP (c : Dev nD) (e : Bool) (q : Dev nD) (j : ℕ) (h : j < 2) : Vec F S256x2048 .f32 :=
  fun i => dot512 (xch m ρ c e q) (win m ρ c) ((Rect.unit (s := S512x2048) ![256 * j, 0] S256x2048.size (inb_p h)).emb i)

/-- The running sum of half `j` on device `c` in direction `e` after step `s`: the partial product of the step's chunk
    plus the running sum that came from the neighbour. -/
def acc (e : Bool) (j : ℕ) (h : j < 2) : ℕ → Dev nD → Vec F S256x2048 .f32
  | 0, c => half0 m ρ c e c j h
  | s + 1, c => addf (halfP m ρ c e (ch e c (s + 1)) j h) (acc e j h s (ch e c 1))

/-- Half `j` of the finished chunk `q` of direction `e`. -/
def fin (e : Bool) (q : Dev nD) (j : ℕ) (h : j < 2) : Vec F S256x2048 .f32 := acc m ρ e j h 3 (ch e q 1)

theorem j_lt (i : ℕ) : i / 2 % 2 < 2 := Nat.mod_lt _ (by decide)

/-! ## The cells -/

abbrev barS : Sem sig := (SemArray.scalar (sig.barrier 0 rfl) : Sems sig S_).sem
/-- The semaphore copy `i` signals at its source, -/
def sndI (i : ℕ) : DmaSem sig := sndS (dir i) (i / 2 % 12) (Nat.mod_lt _ (by decide))
/-- and at its target. -/
def rcvI (i : ℕ) : DmaSem sig := rcvS (dir i) (i / 2 % 12) (Nat.mod_lt _ (by decide))

abbrev barCell (c : Dev nD) : GSem nD τ sig := ((c : Thread nD τ), .reg barS)
abbrev sndCell (c : Dev nD) (i : ℕ) : GSem nD τ sig := ((c : Thread nD τ), .dma (sndI i))
abbrev rcvCell (c : Dev nD) (i : ℕ) : GSem nD τ sig := ((c : Thread nD τ), .dma (rcvI i))

/-- Which copy's semaphore a number is, and at which end (`true`: the target). -/
def roleN (n : ℕ) : Option (Bool × ℕ) :=
  if n < 3 then none else if n < 15 then some (false, 2 * (n - 3)) else if n < 27 then some (true, 2 * (n - 15))
  else if n < 39 then some (false, 2 * (n - 27) + 1) else some (true, 2 * (n - 39) + 1)
/-- Which copy's semaphore a semaphore is. -/
def role : SemLoc sig → Option (Bool × ℕ)
  | .dma q => roleN q.val
  | .reg _ => none

theorem role_snd {i : ℕ} (h : i < 24) : role (.dma (sndI i)) = some (false, i) := by
  have : ∀ i : Fin 24, role (.dma (sndI i.val)) = some (false, i.val) := by decide
  exact this ⟨i, h⟩
theorem role_rcv {i : ℕ} (h : i < 24) : role (.dma (rcvI i)) = some (true, i) := by
  have : ∀ i : Fin 24, role (.dma (rcvI i.val)) = some (true, i.val) := by decide
  exact this ⟨i, h⟩
theorem role_bar : role (.reg barS) = none := rfl
theorem role_lS (e : Bool) : role (.dma (lS e).sem) = none := by cases e <;> decide

/-- A remote copy's credit. -/
abbrev N : ℕ := (oL (![0, 0]) (by decide)).view.dmaCredit
theorem N_pos : 0 < N := View.dmaCredit_pos _ (by decide)

/-! ## What the arrivals hand over -/

/-- What copy `i` writes on its target `d`, held at the contents `X`: a landing slot in the reduction, half a chunk of
    the result in the gather. -/
def dstOwn (d : Dev nD) (i : ℕ) (X : Vec F S256x2048 .f32) : sProp 𝕄 :=
  if h : i / 2 / 2 < 3 then owns (d : Thread nD τ) (rV (dir i) (i / 2 / 2) (i / 2 % 2) h (j_lt i)) fullShare X
  else owns (d : Thread nD τ) (oC (dir i) (ch (dir i) d (i / 2 / 2 - 3)) (i / 2 % 2) (j_lt i)) fullShare X

/-- What copy `i` delivers at its target `d`. -/
def val (d : Dev nD) (i : ℕ) : Vec F S256x2048 .f32 :=
  if i / 2 / 2 < 3 then acc m ρ (dir i) (i / 2 % 2) (j_lt i) (i / 2 / 2) (ch (dir i) d 1)
  else fin m ρ (dir i) (ch (dir i) d (i / 2 / 2 - 3)) (i / 2 % 2) (j_lt i)

def rcvPay (d : Dev nD) (i : ℕ) : sProp 𝕄 := dstOwn d i (val m ρ d i)

/-- What copy `i` gives back at its source `c` when it is read: the running sum it sent (half of it held there in the
    gather's first step, the other half being read by the local store), or half a chunk of the result. -/
def sndPay (c : Dev nD) (i : ℕ) : sProp 𝕄 :=
  if i / 2 / 2 < 3 then owns (c : Thread nD τ) (sV (dir i) (i / 2 % 2) (j_lt i)) fullShare (acc m ρ (dir i) (i / 2 % 2) (j_lt i) (i / 2 / 2) c)
  else if i / 2 / 2 = 3 then owns (c : Thread nD τ) (sV (dir i) (i / 2 % 2) (j_lt i)) fullShare.left (acc m ρ (dir i) (i / 2 % 2) (j_lt i) 3 c)
  else owns (c : Thread nD τ) (oC (dir i) (ch (dir i) c (i / 2 / 2 - 4)) (i / 2 % 2) (j_lt i)) fullShare
    (fin m ρ (dir i) (ch (dir i) c (i / 2 / 2 - 4)) (i / 2 % 2) (j_lt i))

/-- What device `d` hands the device that sends to it in direction `e`: everything that device's copies write. -/
def grant (e : Bool) (d : Dev nD) : sProp 𝕄 :=
  bigSep (Finset.range 12) (fun k => iprop(∃ X, dstOwn d (2 * k + e.toNat) X))

/-- One round: a barrier cell has two duties of one unit, one per direction; a copy's cells the duty `false` of the
    copy's credit. -/
def ringRd : Rounds.Schedule (GSem nD τ sig) Bool 𝕄 where
  duties g r := if r = 0 ∧ g.1.2 = .tc ∧ g.2 = .reg barS then Finset.univ
    else if r = 0 ∧ g.1.2 = .tc ∧ (role g.2).isSome then {false} else ∅
  unitless _ := False
  amount g _ _ := if g.2 = .reg barS then 1 else N
  payload g _ d :=
    if g.2 = .reg barS then grant d (ch d g.1.1 3)
    else match role g.2 with
      | some (true, i) => rcvPay m ρ g.1.1 i
      | some (false, i) => sndPay m ρ g.1.1 i
      | none => iprop(emp)
  amount_pos g _ _ _ := by
    by_cases h : g.2 = .reg barS
    · rw [if_pos h]; exact Nat.one_pos
    · rw [if_neg h]; exact N_pos

omit [FloatOps F] in
instance dstOwn_storable (d : Dev nD) (i : ℕ) (X : Vec F S256x2048 .f32) : BI.Storable (upEmb : UEmb _ 𝕄) (dstOwn d i X) := by
  unfold dstOwn; split <;> infer_instance
omit [FloatOps F] in
instance grant_storable (e : Bool) (d : Dev nD) : BI.Storable (upEmb : UEmb _ 𝕄) (grant (F := F) e d) := by
  unfold grant; infer_instance
instance rcvPay_storable (d : Dev nD) (i : ℕ) : BI.Storable (upEmb : UEmb _ 𝕄) (rcvPay m ρ d i) := by unfold rcvPay; infer_instance
instance sndPay_storable (c : Dev nD) (i : ℕ) : BI.Storable (upEmb : UEmb _ 𝕄) (sndPay m ρ c i) := by
  unfold sndPay; (repeat' split) <;> infer_instance

instance ringRd_payload_storable (g : GSem nD τ sig) (r : ℕ) (d : Bool) :
    BI.Storable (upEmb : UEmb _ 𝕄) ((ringRd m ρ).payload g r d) := by
  show BI.Storable upEmb (if g.2 = .reg barS then grant d (ch d g.1.1 3)
    else match role g.2 with
      | some (true, i) => rcvPay m ρ g.1.1 i
      | some (false, i) => sndPay m ρ g.1.1 i
      | none => iprop(emp))
  (repeat' split) <;> infer_instance

section Sched
variable (c : Dev nD)

theorem dma_ne_bar (q : DmaSem sig) : (SemLoc.dma q : SemLoc sig) ≠ .reg barS := fun h => by cases h

theorem duties_bar : (ringRd m ρ).duties (barCell c) 0 = Finset.univ := by dsimp only [ringRd]; exact if_pos ⟨rfl, rfl, rfl⟩
theorem duties_snd {i : ℕ} (h : i < 24) : (ringRd m ρ).duties (sndCell c i) 0 = {false} := by
  dsimp only [ringRd]; rw [if_neg (fun h => dma_ne_bar _ h.2.2)]; exact if_pos ⟨rfl, rfl, by rw [role_snd h]; rfl⟩
theorem duties_rcv {i : ℕ} (h : i < 24) : (ringRd m ρ).duties (rcvCell c i) 0 = {false} := by
  dsimp only [ringRd]; rw [if_neg (fun h => dma_ne_bar _ h.2.2)]; exact if_pos ⟨rfl, rfl, by rw [role_rcv h]; rfl⟩
theorem duties_later (g : GSem nD τ sig) : ∀ r, 1 ≤ r → (ringRd m ρ).duties g r = ∅ :=
  fun r hr => by dsimp only [ringRd]; rw [if_neg fun h => by omega, if_neg fun h => by omega]

theorem amount_bar (d : Bool) : (ringRd m ρ).amount (barCell c) 0 d = 1 := by dsimp only [ringRd]; exact if_pos rfl
theorem amount_dma (q : DmaSem sig) (d : Bool) : (ringRd m ρ).amount ((c : Thread nD τ), .dma q) 0 d = N := by
  dsimp only [ringRd]; exact if_neg (dma_ne_bar q)

theorem expect_bar : (ringRd m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_snd {i : ℕ} (h : i < 24) : (ringRd m ρ).expect (sndCell c i) 0 = N := by
  unfold Schedule.expect Schedule.amountOf; rw [duties_snd m ρ c h, Finset.sum_singleton, amount_dma]
theorem expect_rcv {i : ℕ} (h : i < 24) : (ringRd m ρ).expect (rcvCell c i) 0 = N := by
  unfold Schedule.expect Schedule.amountOf; rw [duties_rcv m ρ c h, Finset.sum_singleton, amount_dma]

theorem payload_bar (d : Bool) : (ringRd m ρ).payload (barCell c) 0 d = grant d (ch d c 3) := by dsimp only [ringRd]; exact if_pos rfl
theorem payload_snd {i : ℕ} (h : i < 24) (d : Bool) : (ringRd m ρ).payload (sndCell c i) 0 d = sndPay m ρ c i := by
  dsimp only [ringRd]; rw [if_neg (dma_ne_bar _), role_snd h]
theorem payload_rcv {i : ℕ} (h : i < 24) (d : Bool) : (ringRd m ρ).payload (rcvCell c i) 0 d = rcvPay m ρ c i := by
  dsimp only [ringRd]; rw [if_neg (dma_ne_bar _), role_rcv h]

theorem rest_bar : bigSep ((ringRd m ρ).duties (barCell c) 0 \ ∅) (fun d => (ringRd m ρ).payload (barCell c) 0 d)
    = iprop(grant false (ch false c 3) ∗ grant true (ch true c 3)) := by
  rw [Finset.sdiff_empty, duties_bar, bigSep_univ_eq_bigSepL [false, true] (by decide) (by decide), bigSepL_cons_cons, bigSepL_singleton,
    payload_bar, payload_bar]
  rfl
theorem rest_snd {i : ℕ} (h : i < 24) :
    bigSep ((ringRd m ρ).duties (sndCell c i) 0 \ ∅) (fun d => (ringRd m ρ).payload (sndCell c i) 0 d) = sndPay m ρ c i := by
  rw [Finset.sdiff_empty, duties_snd m ρ c h, bigSep_singleton, payload_snd m ρ c h]
theorem rest_rcv {i : ℕ} (h : i < 24) :
    bigSep ((ringRd m ρ).duties (rcvCell c i) 0 \ ∅) (fun d => (ringRd m ρ).payload (rcvCell c i) 0 d) = rcvPay m ρ c i := by
  rw [Finset.sdiff_empty, duties_rcv m ρ c h, bigSep_singleton, payload_rcv m ρ c h]

end Sched

/-! ## What each device owes; the levels -/

/-- The device copy `i` of device `c` goes to. -/
abbrev tgt (c : Dev nD) (i : ℕ) : Dev nD := ch (dir i) c 3

/-- What device `c` owes when it has started its first `n` copies: the credits of the others at their targets. -/
def owedFrom (c : Dev nD) (n : ℕ) : CellTallies nD τ sig Unit := ∑ i ∈ Finset.Ico n 24, tallyAt (rcvCell (tgt c i) i) () N
/-- What it owes after its first signal, and at launch. -/
def O₁ (c : Dev nD) : CellTallies nD τ sig Unit := owedFrom c 0 + tallyAt (barCell (ch true c 1)) () 1
def O₀ (c : Dev nD) : CellTallies nD τ sig Unit := O₁ c + tallyAt (barCell (ch false c 1)) () 1

theorem owedFrom_step (c : Dev nD) {n : ℕ} (h : n < 24) : owedFrom c n = owedFrom c (n + 1) + tallyAt (rcvCell (tgt c n) n) () N := by
  unfold owedFrom
  rw [show Finset.Ico n 24 = insert n (Finset.Ico (n + 1) 24) by ext x; simp only [Finset.mem_Ico, Finset.mem_insert]; omega,
    Finset.sum_insert (by rw [Finset.mem_Ico]; omega), add_comm]
theorem owedFrom_end (c : Dev nD) : owedFrom c 24 = 0 := by unfold owedFrom; rw [Finset.Ico_self, Finset.sum_empty]

def L (g : GSem nD τ sig) : Finset Unit := if g.1.2 = .tc then {()} else ∅
/-- Barrier cells at 1; a copy's target cell at 2 and up, later ones higher; everything else at 0. -/
def lv (g : GSem nD τ sig) (_ : Unit) : ℕ :=
  if g.2 = .reg barS then 1 else match role g.2 with
    | some (true, i) => 2 + i / 2
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_rcv (c : Dev nD) {i : ℕ} (h : i < 24) (u : Unit) : lv (rcvCell c i) u = 2 + i / 2 := by
  dsimp only [lv]; rw [if_neg (dma_ne_bar _), role_rcv h]
theorem lv_snd (c : Dev nD) {i : ℕ} (h : i < 24) (u : Unit) : lv (sndCell c i) u = 0 := by
  dsimp only [lv]; rw [if_neg (dma_ne_bar _), role_snd h]
theorem lv_none (c : Dev nD) {q : DmaSem sig} (h : role (.dma q) = none) (u : Unit) : lv ((c : Thread nD τ), .dma q) u = 0 := by
  dsimp only [lv]; rw [if_neg (dma_ne_bar _), h]

theorem tallyAt_pos {g g' : GSem nD τ sig} {u : Unit} {n : ℕ} (h : 0 < tallyAt g () n g' u) : g' = g := by
  rw [tallyAt_apply] at h
  by_contra hn
  rw [if_neg (fun h' => hn h'.1)] at h
  exact Nat.lt_irrefl 0 h

theorem owedFrom_pos {c : Dev nD} {n : ℕ} {g : GSem nD τ sig} {u : Unit} (h : 0 < owedFrom c n g u) :
    ∃ i, n ≤ i ∧ i < 24 ∧ g = rcvCell (tgt c i) i := by
  unfold owedFrom at h
  rw [Finset.sum_apply, Finsupp.finset_sum_apply] at h
  obtain ⟨i, hi, hp⟩ := Finset.exists_ne_zero_of_sum_ne_zero h.ne'
  exact ⟨i, (Finset.mem_Ico.mp hi).1, (Finset.mem_Ico.mp hi).2, tallyAt_pos (Nat.pos_of_ne_zero hp)⟩

theorem O₀_pos {c : Dev nD} {g : GSem nD τ sig} {u : Unit} (h : 0 < O₀ c g u) :
    (∃ i, i < 24 ∧ g = rcvCell (tgt c i) i) ∨ g = barCell (ch true c 1) ∨ g = barCell (ch false c 1) := by
  unfold O₀ O₁ at h
  rw [Pi.add_apply, Finsupp.add_apply, Pi.add_apply, Finsupp.add_apply] at h
  by_contra hn
  rw [not_or, not_or] at hn
  have h1 : ¬ 0 < owedFrom c 0 g u := fun h => hn.1 (by obtain ⟨i, _, h2, h3⟩ := owedFrom_pos h; exact ⟨i, h2, h3⟩)
  have h2 : ¬ 0 < tallyAt (barCell (ch true c 1)) () 1 g u := fun h => hn.2.1 (tallyAt_pos h)
  have h3 : ¬ 0 < tallyAt (barCell (ch false c 1)) () 1 g u := fun h => hn.2.2 (tallyAt_pos h)
  omega

theorem lv_owedFrom {c : Dev nD} {n : ℕ} {g : GSem nD τ sig} {u : Unit} (h : 0 < owedFrom c n g u) : 2 + n / 2 ≤ lv g u := by
  obtain ⟨i, h1, h2, rfl⟩ := owedFrom_pos h
  rw [lv_rcv _ h2]; omega

/-- A semaphore at level 0 may be waited for whatever copies are still owed. -/
theorem mayWait_zero (c : Dev nD) (q : DmaSem sig) (hq : lv ((c : Thread nD τ), .dma q) () = 0) (n : ℕ) :
    (levAts L lv : sProp 𝕄) ⊢ MayWait (c : Thread nD τ) (.dma q) () (owedFrom c n) := by
  refine MayOwe.of_cut (L := L) (lev := lv) 0 (fun p hp => by rw [Finset.mem_singleton.mp hp, L_tc]; exact Finset.mem_singleton_self _)
    (fun g u hg => by obtain ⟨i, _, _, rfl⟩ := owedFrom_pos hg; exact Finset.mem_singleton_self _)
    (fun p hp => by rw [Finset.mem_singleton.mp hp]; exact hq.le)
    (fun g u hg => by have := lv_owedFrom hg; omega)
/-- The staging's waits, with everything owed or nothing. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, _, rfl⟩ | rfl | rfl <;> exact Finset.mem_singleton_self _)
      (fun p hp => by rw [Finset.mem_singleton.mp hp]; exact hq.le)
      (fun g u hg => by
        rcases O₀_pos hg with ⟨i, h, rfl⟩ | rfl | rfl
        · rw [lv_rcv _ h]; omega
        · rw [lv_bar]; decide
        · rw [lv_bar]; decide)
  · rw [MayWait_zero]; iintro -; iempintro
/-- At its barrier wait a device owes its copies. -/
theorem mayWait_bar (c : Dev nD) : (levAts L lv : sProp 𝕄) ⊢ MayWait (c : Thread nD τ) (.reg barS) () (owedFrom c 0) := by
  refine MayOwe.of_cut (L := L) (lev := lv) 1 (fun p hp => by rw [Finset.mem_singleton.mp hp, L_tc]; exact Finset.mem_singleton_self _)
    (fun g u hg => by obtain ⟨i, _, _, rfl⟩ := owedFrom_pos hg; exact Finset.mem_singleton_self _)
    (fun p hp => by rw [Finset.mem_singleton.mp hp]; exact (lv_bar c ()).le)
    (fun g u hg => by have := lv_owedFrom hg; omega)
/-- The arrival of copy `i` may be waited for by a device that still owes only copies of later pairs. -/
theorem mayWait_rcv (c : Dev nD) {i n : ℕ} (hi : i < 24) (h : i / 2 < n / 2) :
    (levAts L lv : sProp 𝕄) ⊢ MayWait (c : Thread nD τ) (.dma (rcvI i)) () (owedFrom c n) := by
  refine MayOwe.of_cut (L := L) (lev := lv) (2 + i / 2) (fun p hp => by rw [Finset.mem_singleton.mp hp, L_tc]; exact Finset.mem_singleton_self _)
    (fun g u hg => by obtain ⟨i, _, _, rfl⟩ := owedFrom_pos hg; exact Finset.mem_singleton_self _)
    (fun p hp => by rw [Finset.mem_singleton.mp hp]; exact (lv_rcv c hi ()).le)
    (fun g u hg => by have := lv_owedFrom hg; omega)

end Cert.KernelIdeal.Proofs

end
-- ==== Proof.Ideal.Ledger.lean ====
/-
The ledger of a device: what it holds of the two rings when it has started `ns` copies, received `nr` and seen `nw` of
its own read at their source; and the operations that move it on.
-/
module

public import proofs.«01_k».proof.Proof.Ideal.Sched
public import Idealize.SL.BI.BigOpNat

@[expose] public section

noncomputable section

namespace Cert.KernelIdeal.Proofs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- `p` on device `c` ends with `Q`. -/
abbrev WP (c : Dev nD) (p : PR F PUnit) (Q : sProp 𝕄) : sProp 𝕄 :=
  wp frame (wpE (defs₀ (F := F)) 𝒱₀ (c : Thread nD τ) none) Set.univ p (fun _ => Q)

/-- An operation and what follows it. -/
theorem seq (c : Dev nD) {p k : PR F PUnit} {P R Q : sProp 𝕄} (h : P ⊢ WP c p R) :
    P ⊢ iprop((R -∗ WP c k Q) -∗ WP c (p >>= fun _ => k) Q) := by
  rw [show WP c (p >>= fun _ => k) Q = wp frame (wpE (defs₀ (F := F)) 𝒱₀ (c : Thread nD τ) none) Set.univ p (fun _ => WP c k Q) from wp_bind _ _ _ _ _ _]
  iintro HP Hk
  ihave HW := h $$ HP
  iapply (wp_wand frame (wpE (defs₀ (F := F)) 𝒱₀ (c : Thread nD τ) none) Set.univ) $$ HW
  iintro %a HR
  iapply Hk
  iexact HR

/-- An operation at the end. -/
theorem fin_seq (c : Dev nD) {p : PR F PUnit} {P R Q : sProp 𝕄} (h : P ⊢ WP c p R) :
    P ⊢ iprop((R -∗ Q) -∗ WP c p Q) := by
  iintro HP Hk
  ihave HW := h $$ HP
  iapply (wp_wand frame (wpE (defs₀ (F := F)) 𝒱₀ (c : Thread nD τ) none) Set.univ) $$ HW
  iintro %a HR
  iapply Hk
  iexact HR

/-! ## The cells' records -/

/-- A device's cells: the barrier's, and each copy's at its source (`false`) and at its target (`true`). -/
abbrev Cl : Type := Option (Bool × Fin 24)
abbrev csem : Cl → SemLoc sig
  | none => .reg barS
  | some (false, i) => .dma (sndI i.val)
  | some (true, i) => .dma (rcvI i.val)
abbrev kcell (ck : Dev nD × Cl) : GSem nD τ sig := ((ck.1 : Thread nD τ), csem ck.2)

/-- Every cell's invariant, and that it has reached its round 0. -/
def records (K : Dev nD × Cl → ℕ) : sProp 𝕄 :=
  iprop((bigSep Finset.univ fun ck : Dev nD × Cl => cellInv ER (ringRd m ρ) (K ck) (kcell ck))
    ∗ bigSep Finset.univ fun ck : Dev nD × Cl => reached ER (kcell ck) 0)

instance records_persistent (K : Dev nD × Cl → ℕ) : BI.Persistent (records m ρ K) := by unfold records; infer_instance

/-- The records and the levels. -/
def Env (K : Dev nD × Cl → ℕ) : sProp 𝕄 := iprop(records m ρ K ∗ levAts L lv)
instance Env_persistent (K : Dev nD × Cl → ℕ) : BI.Persistent (Env m ρ K) := by unfold Env; infer_instance

theorem records_inv (K : Dev nD × Cl → ℕ) (ck : Dev nD × Cl) : records m ρ K ⊢ cellInv ER (ringRd m ρ) (K ck) (kcell ck) := by
  unfold records
  iintro ⟨H, -⟩
  iapply (show (bigSep Finset.univ fun ck : Dev nD × Cl => (cellInv ER (ringRd m ρ) (K ck) (kcell ck) : sProp 𝕄)) ⊢ cellInv ER (ringRd m ρ) (K ck) (kcell ck) from
    bigSep_elim (Finset.mem_univ ck)) $$ H
theorem records_reached (K : Dev nD × Cl → ℕ) (ck : Dev nD × Cl) : records m ρ K ⊢ reached ER (kcell ck) 0 := by
  unfold records
  iintro ⟨-, H⟩
  iapply (show (bigSep Finset.univ fun ck : Dev nD × Cl => (reached ER (kcell ck) 0 : sProp 𝕄)) ⊢ reached ER (kcell ck) 0 from
    bigSep_elim (Finset.mem_univ ck)) $$ H

theorem inv_bar (K : Dev nD × Cl → ℕ) (c : Dev nD) : records m ρ K ⊢ cellInv ER (ringRd m ρ) (K (c, none)) (barCell c) := records_inv m ρ K (c, none)
theorem inv_snd (K : Dev nD × Cl → ℕ) (c : Dev nD) {i : ℕ} (h : i < 24) :
    records m ρ K ⊢ cellInv ER (ringRd m ρ) (K (c, some (false, ⟨i, h⟩))) (sndCell c i) := records_inv m ρ K (c, some (false, ⟨i, h⟩))
theorem inv_rcv (K : Dev nD × Cl → ℕ) (c : Dev nD) {i : ℕ} (h : i < 24) :
    records m ρ K ⊢ cellInv ER (ringRd m ρ) (K (c, some (true, ⟨i, h⟩))) (rcvCell c i) := records_inv m ρ K (c, some (true, ⟨i, h⟩))
theorem reached_bar (K : Dev nD × Cl → ℕ) (c : Dev nD) : records m ρ K ⊢ reached ER (barCell c) 0 := records_reached m ρ K (c, none)
theorem reached_snd (K : Dev nD × Cl → ℕ) (c : Dev nD) {i : ℕ} (h : i < 24) : records m ρ K ⊢ reached ER (sndCell c i) 0 :=
  records_reached m ρ K (c, some (false, ⟨i, h⟩))
theorem reached_rcv (K : Dev nD × Cl → ℕ) (c : Dev nD) {i : ℕ} (h : i < 24) : records m ρ K ⊢ reached ER (rcvCell c i) 0 :=
  records_reached m ρ K (c, some (true, ⟨i, h⟩))

/-! ## The ledger -/

/-- What device `c` owes with `n` copies started. -/
def Ow (c : Dev nD) (n : ℕ) : sProp 𝕄 := iprop(∃ W : Waits sig Unit, owes (c : Thread nD τ) (owedFrom c n) W)
/-- What copy `i` of device `c` is started with: the tokens of its two duties, and the elements it writes. -/
def cSend (c : Dev nD) (i : ℕ) : sProp 𝕄 :=
  iprop(dutyTok ER (sndCell c i) 0 false ∗ dutyTok ER (rcvCell (tgt c i) i) 0 false ∗ ∃ X, dstOwn (tgt c i) i X)
/-- What copy `i`'s arrival at device `c` is waited for with. -/
def cRcv (c : Dev nD) (i : ℕ) : sProp 𝕄 := iprop(atPos ER (rcvCell c i) 0 ∅ 0 ∗ cred (tallyAt (rcvCell c i) () N))

/-- Device `c` with `ns` copies started, `nr` received, `nw` of its own read. -/
def Led (K : Dev nD × Cl → ℕ) (c : Dev nD) (ns nr nw : ℕ) : sProp 𝕄 :=
  iprop(Env m ρ K ∗ Ow c ns
    ∗ bigSep (Finset.Ico ns 24) (cSend c)
    ∗ bigSep (Finset.Ico nr 24) (cRcv c)
    ∗ bigSep (Finset.Ico 0 nr) (fun i => semVal (rcvCell c i) 0)
    ∗ bigSep (Finset.Ico nw 24) (fun i => atPos ER (sndCell c i) 0 ∅ 0)
    ∗ bigSep (Finset.Ico nw ns) (fun i => cred (tallyAt (sndCell c i) () N))
    ∗ bigSep (Finset.Ico 0 nw) (fun i => semVal (sndCell c i) 0))

variable (K : Dev nD × Cl → ℕ) (c : Dev nD)

/-- Copy `ns` is started: its source (at any share) and what it writes are given up. -/
theorem led_send {ns nr nw : ℕ} (hns : ns < 24) (hw : nw ≤ ns) (qs qr : DmaSem sig) (hs : qs = sndI ns) (hr : qr = rcvI ns)
    (n : Dev nD) (hn : n = tgt c ns)
    {sp sp' : Space} (a : Memref sig .tc sp S256x2048 .f32) (b : Memref sig .tc sp' S256x2048 .f32)
    (ha : a.view.WordExact) (hb : b.view.WordExact) (hsc : b.view.ref.isScScratch = false)
    (ht : DmaTarget.Typed (p := Proc.tc) sp (.dma qr) (.remote (Dev.tc n : Thread nD τ) b (.dma qs) hsc))
    (hN : b.view.dmaCredit = N)
    (q : PosShare TreeShare) (X : Vec F S256x2048 .f32)
    (hA : sndPay m ρ c ns = owns (c : Thread nD τ) a q X)
    (hB : ∀ Y, (dstOwn (tgt c ns) ns Y : sProp 𝕄) = owns (tgt c ns : Thread nD τ) b fullShare Y)
    (hV : val m ρ (tgt c ns) ns = X) :
    iprop(Led m ρ K c ns nr nw ∗ owns (c : Thread nD τ) a q X)
      ⊢ WP c (Prog.lift (.enqueueDma a (.remote (Dev.tc n) b (.dma qs) hsc) (.dma qr) ha hb ht)) (Led m ρ K c (ns + 1) nr nw) := by
  subst hn hs hr
  unfold Led Prog.lift WP
  rw [bigSep_Ico_succ_bot hns, bigSep_Ico_succ_top (a := nw) (b := ns) hw]
  unfold Ow
  rw [owedFrom_step c hns]
  unfold cSend Env
  iintro ⟨⟨⟨#HR, #HL⟩, ⟨%W, HO⟩, ⟨⟨Ht1, Ht2, ⟨%Y, Hd⟩⟩, HS⟩, H1, H2, H3, H4, H5⟩, Ha⟩
  ihave Hd' := (Entails.of_eq (hB Y)) $$ Hd
  unfold owns
  icases Ha with ⟨%fs, %hfs, Ha⟩
  icases Hd' with ⟨%fd, %hfd, Hd⟩
  ihave #Hi1 := (inv_snd m ρ K c hns) $$ HR
  ihave #Hi2 := (inv_rcv m ρ K (tgt c ns) hns) $$ HR
  ihave #Hr1 := (reached_snd m ρ K c hns) $$ HR
  ihave #Hr2 := (reached_rcv m ρ K (tgt c ns) hns) $$ HR
  iapply (Rounds.wp_send_pointsTo 𝒱₀ ER (ringRd m ρ) (c : Thread nD τ) none (sS := .dma (sndI ns)) (sem := .dma (rcvI ns))
    (κ₁ := K (c, some (false, ⟨ns, hns⟩))) (κ₂ := K (tgt c ns, some (true, ⟨ns, hns⟩)))
    (r₁ := 0) (r₂ := 0) (d₁ := false) (d₂ := false) (fs := fs) (fd := fd) (q := q)
    (by rw [duties_snd m ρ c hns]; exact Finset.mem_singleton_self _) (by rw [duties_rcv m ρ _ hns]; exact Finset.mem_singleton_self _)
    () () N hN (amount_dma m ρ c _ false) (amount_dma m ρ _ _ false) (owedFrom c (ns + 1)) rfl (W := W)
    (by
      rw [payload_snd m ρ c hns, hA]; unfold owns
      iintro H; iexists fs; isplitr; · ipureintro; exact hfs
      iexact H)
    (by
      rw [payload_rcv m ρ _ hns]; unfold rcvPay; rw [hB, hV]; unfold owns
      iintro H; iexists (b.view.write (Elt F) fd (a.view.read (Elt F) fs) Finset.univ); isplitr
      · ipureintro; exact (View.read_write_univ (v := b.view) fd _).trans hfs
      iexact H)) $$ [Ha Hd HO Ht1 Ht2]
  · isplitr; · iexact Hi1
    isplitr; · iexact Hi2
    isplitl [Ha]; · iexact Ha
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]; imodintro
  isplitr; · isplitr; · iexact HR
             iexact HL
  isplitl [HO]; · iexists W; iexact HO
  isplitl [HS]; · iexact HS
  isplitl [H1]; · iexact H1
  isplitl [H2]; · iexact H2
  isplitl [H3]; · iexact H3
  isplitl [Hc H4]
  · isplitl [Hc]; · iexact Hc
    iexact H4
  iexact H5

/-- Copy `nr`'s arrival is waited for: what it delivers is the device's. -/
theorem led_recv {ns nr nw : ℕ} (hnr : nr < 24) (hlt : nr / 2 < ns / 2) (q : DmaSem sig) (hq : q = rcvI nr)
    {sp sp' : Space} {s s' : Shape} (a : Memref sig .tc sp s .f32) (b : Memref sig .tc sp' s' .f32)
    (ha : a.view.WordExact) (hb : b.view.WordExact) (hN : b.view.dmaCredit = N) :
    Led m ρ K c ns nr nw ⊢ WP c (waitD q a b ha hb) iprop(Led m ρ K c ns (nr + 1) nw ∗ rcvPay m ρ c nr) := by
  subst hq
  unfold Led waitD Prog.lift WP
  rw [bigSep_Ico_succ_bot hnr]
  unfold Ow cRcv Env
  iintro ⟨⟨#HR, #HL⟩, ⟨%W, HO⟩, HS, ⟨⟨Hat, Hc⟩, H1⟩, H2, H3, H4, H5⟩
  ihave #Hi := (inv_rcv m ρ K c hnr) $$ HR
  iapply (Rounds.wp_wait_rest_token 𝒱₀ ER (ringRd m ρ) (c : Thread nD τ) none (κ := K (c, some (true, ⟨nr, hnr⟩)))
      (wpE_waitDma2_eq 𝒱₀ (c : Thread nD τ) none Set.univ) (Set.mem_univ _) () (O := owedFrom c ns) (W := W) (R := 0) (m := 0) (T := ∅)
      (by rw [expect_rcv m ρ c hnr, hN, Nat.zero_add])) $$ [Hc HO Hat]
  · isplitr; · iexact Hi
    isplitl [Hc]; · rw [hN]; iexact Hc
    isplitl [HO]; · iexact HO
    isplitr; · iapply (mayWait_rcv c hnr hlt); iexact HL
    iexact Hat
  iintro ⟨HO, Hat, -, Hpay⟩
  ihave Hp := (Entails.of_eq (rest_rcv m ρ c hnr)) $$ Hpay
  imod (Rounds.cell_close ER (ringRd m ρ) (Set.mem_univ (K (c, some (true, ⟨nr, hnr⟩)))) (fun h => h) (R := 0 + 1) (duties_later m ρ (rcvCell c nr))) $$ [Hat] with Hz
  · isplitr; · iexact Hi
    iexact Hat
  rw [wp_ret]; imodintro
  rw [bigSep_Ico_succ_top (a := 0) (b := nr) (Nat.zero_le _)]
  isplitr [Hp]
  · isplitr; · isplitr; · iexact HR
               iexact HL
    isplitl [HO]; · iexists _; iexact HO
    isplitl [HS]; · iexact HS
    isplitl [H1]; · iexact H1
    isplitl [Hz H2]
    · isplitl [Hz]; · iexact Hz
      iexact H2
    isplitl [H3]; · iexact H3
    isplitl [H4]; · iexact H4
    iexact H5
  · iexact Hp

/-- Copy `nw` read at its source is waited for: its source is the device's again. -/
theorem led_sent {ns nr nw : ℕ} (hnw : nw < ns) (hns : ns ≤ 24) (q : DmaSem sig) (hq : q = sndI nw)
    {sp sp' : Space} {s s' : Shape} (a : Memref sig .tc sp s .f32) (b : Memref sig .tc sp' s' .f32)
    (ha : a.view.WordExact) (hb : b.view.WordExact) (hN : b.view.dmaCredit = N) :
    Led m ρ K c ns nr nw ⊢ WP c (waitD q a b ha hb) iprop(Led m ρ K c ns nr (nw + 1) ∗ sndPay m ρ c nw) := by
  subst hq
  have h24 : nw < 24 := by omega
  unfold Led waitD Prog.lift WP
  rw [bigSep_Ico_succ_bot h24, bigSep_Ico_succ_bot hnw]
  unfold Ow Env
  iintro ⟨⟨#HR, #HL⟩, ⟨%W, HO⟩, HS, H1, H2, ⟨Hat, H3⟩, ⟨Hc, H4⟩, H5⟩
  ihave #Hi := (inv_snd m ρ K c h24) $$ HR
  iapply (Rounds.wp_wait_rest_token 𝒱₀ ER (ringRd m ρ) (c : Thread nD τ) none (κ := K (c, some (false, ⟨nw, h24⟩)))
      (wpE_waitDma2_eq 𝒱₀ (c : Thread nD τ) none Set.univ) (Set.mem_univ _) () (O := owedFrom c ns) (W := W) (R := 0) (m := 0) (T := ∅)
      (by rw [expect_snd m ρ c h24, hN, Nat.zero_add])) $$ [Hc HO Hat]
  · isplitr; · iexact Hi
    isplitl [Hc]; · rw [hN]; iexact Hc
    isplitl [HO]; · iexact HO
    isplitr; · iapply (mayWait_zero c (sndI nw) (lv_snd c h24 ()) ns); iexact HL
    iexact Hat
  iintro ⟨HO, Hat, -, Hpay⟩
  ihave Hp := (Entails.of_eq (rest_snd m ρ c h24)) $$ Hpay
  imod (Rounds.cell_close ER (ringRd m ρ) (Set.mem_univ (K (c, some (false, ⟨nw, h24⟩)))) (fun h => h) (R := 0 + 1) (duties_later m ρ (sndCell c nw))) $$ [Hat] with Hz
  · isplitr; · iexact Hi
    iexact Hat
  rw [wp_ret]; imodintro
  rw [bigSep_Ico_succ_top (a := 0) (b := nw) (Nat.zero_le _)]
  isplitr [Hp]
  · isplitr; · isplitr; · iexact HR
               iexact HL
    isplitl [HO]; · iexists _; iexact HO
    isplitl [HS]; · iexact HS
    isplitl [H1]; · iexact H1
    isplitl [H2]; · iexact H2
    isplitl [H3]; · iexact H3
    isplitl [H4]; · iexact H4
    isplitl [Hz]; · iexact Hz
    iexact H5
  · iexact Hp

/-- The ledger lends what the device owes. -/
theorem led_ow (ns nr nw : ℕ) : Led m ρ K c ns nr nw ⊢ iprop(levAts L lv ∗ Ow c ns ∗ (Ow c ns -∗ Led m ρ K c ns nr nw)) := by
  unfold Led Env
  iintro ⟨⟨#HR, #HL⟩, HO, H⟩
  isplitr; · iexact HL
  isplitl [HO]; · iexact HO
  iintro HO
  isplitr; · isplitr; · iexact HR
             iexact HL
  isplitl [HO]; · iexact HO
  iexact H

end Cert.KernelIdeal.Proofs

end
-- ==== Proof.Ideal.Compute.lean ====
/-
The computing operations: what each leaves in the running sums and the product buffer.
-/
module

public import proofs.«01_k».proof.Proof.Ideal.Ledger
public import Idealize.ShloMosaic.Lib.Pipeline.Value

@[expose] public section

noncomputable section

namespace Cert.KernelIdeal.Proofs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-- What a program on device `c` ends with, the result kept. -/
abbrev WPk {α : Type} (c : Dev nD) (p : PR F α) (Q : α → sProp 𝕄) : sProp 𝕄 :=
  wp frame (wpE (defs₀ (F := F)) 𝒱₀ (c : Thread nD τ) none) Set.univ p Q

/-- A load through a rectangle of an owned memref reads its part of the contents. -/
theorem load_owns {cs : CoreSpace} {s : Shape} {e : EltTy} (M : Memref sig .tc cs s e) (r : Rect s) (hl : M.view.LoadsAt r.toLoadRect)
    (q : PosShare TreeShare) (X : s.Idx → Elt F e) {α : Type} {k : (r.shape.Idx → Elt F e) → PR F α} {Q : α → sProp 𝕄} :
    owns (c : Thread nD τ) M q X ⊢ iprop((owns (c : Thread nD τ) M q X -∗ WPk c (k (fun i => X (r.emb i))) Q)
      -∗ WPk c (.op (.load M r.toLoadRect hl) k) Q) := by
  unfold owns
  iintro ⟨%f, %hf, H⟩ Hk
  iapply (wp_load 𝒱₀ (c : Thread nD τ) none Set.univ (m := M) (View.setOn_subset_set _ _)) $$ H
  iintro H
  have e1 : M.view.readAt (Elt F) r.toLoadRect f = fun i => X (r.emb i) := by rw [← hf]; rfl
  rw [e1]
  iapply Hk
  iexists f
  isplitr; · ipureintro; exact hf
  iexact H

/-- A load through a rectangle of a memref of which the rectangle's slice is owned reads the slice's contents. -/
theorem load_slice {cs : CoreSpace} {s : Shape} {e : EltTy} (M : Memref sig .tc cs s e) (r : Rect s) (hr : ∀ a, r.stride a = 1) (hl : M.view.LoadsAt r.toLoadRect)
    (q : PosShare TreeShare) (X : r.shape.Idx → Elt F e) {α : Type} {k : (r.shape.Idx → Elt F e) → PR F α} {Q : α → sProp 𝕄} :
    owns (c : Thread nD τ) (M.slice r hr) q X ⊢ iprop((owns (c : Thread nD τ) (M.slice r hr) q X -∗ WPk c (k X) Q)
      -∗ WPk c (.op (.load M r.toLoadRect hl) k) Q) := by
  unfold owns
  iintro ⟨%f, %hf, H⟩ Hk
  iapply (wp_load_rect 𝒱₀ (c : Thread nD τ) none Set.univ (m := M) (r := r) (S := (M.slice r hr).view.set) (Finset.Subset.refl _)) $$ H
  iintro H
  have e1 : (M.access r).read (Elt F) f = X := hf
  rw [e1]
  iapply Hk
  iexists f
  isplitr; · ipureintro; exact hf
  iexact H

/-- A store through a rectangle whose slice is owned leaves the stored contents in the slice. -/
theorem store_slice {cs : CoreSpace} {s : Shape} {e : EltTy} (M : Memref sig .tc cs s e) (r : Rect s) (hr : ∀ a, r.stride a = 1)
    (X w : r.shape.Idx → Elt F e) {hx hm} {α : Type} {k : PUnit → PR F α} {Q : α → sProp 𝕄} :
    owns (c : Thread nD τ) (M.slice r hr) fullShare X ⊢ iprop((owns (c : Thread nD τ) (M.slice r hr) fullShare w -∗ WPk c (k ⟨⟩) Q)
      -∗ WPk c (.op (.store M r w Finset.univ hx hm) k) Q) := by
  unfold owns
  iintro ⟨%f, %hf, H⟩ Hk
  iapply (wp_store 𝒱₀ (c : Thread nD τ) none Set.univ (m := M) (r := r) (S := (M.slice r hr).view.set) (View.setOn_subset_set _ _)) $$ H
  iintro H
  iapply Hk
  iexists ((M.access r).write (Elt F) f w Finset.univ)
  isplitr; · ipureintro; exact View.read_write_univ (v := M.access r) f w
  iexact H

/-- A memref with its unit axes dropped is owned at the contents recast. -/
theorem owns_squeeze {sp : Space} {s s' : Shape} {e : EltTy} (M : Memref sig .tc sp s e) (h : s.Squeezes s') (hc : s'.ShapeCasts s)
    (q : PosShare TreeShare) (X : s'.Idx → Elt F e) :
    (owns (c : Thread nD τ) (M.squeeze s' h) q X : sProp 𝕄) = owns (c : Thread nD τ) M q (shapeCast s X hc) := by
  have hr : ∀ f : M.view.ty.Contents (Elt F), (M.squeeze s' h).view.read (Elt F) f = shapeCast s' (M.view.read (Elt F) f) hc.symm := fun f => rfl
  have hset : (M.squeeze s' h).view.set = M.view.set := View.set_reshape ..
  have hp : ∀ f : Buf (Elt F) (M.view.loc (c : Thread nD τ)),
      ((M.view.loc (c : Thread nD τ) ↦[(M.squeeze s' h).view.set]{q} f) : sProp 𝕄) = (M.view.loc (c : Thread nD τ) ↦[M.view.set]{q} f) :=
    fun f => congrArg (fun S => ((M.view.loc (c : Thread nD τ) ↦[S]{q} f) : sProp 𝕄)) hset
  have h₁ : (owns (c : Thread nD τ) (M.squeeze s' h) q X : sProp 𝕄) ⊢ owns (c : Thread nD τ) M q (shapeCast s X hc) := by
    unfold owns
    iintro ⟨%f, %hf, H⟩
    iexists f
    isplitr
    · ipureintro; rw [← hf, hr, shapeCast_shapeCast]
    · iapply (Entails.of_eq (hp f)) $$ H
  have h₂ : (owns (c : Thread nD τ) M q (shapeCast s X hc) : sProp 𝕄) ⊢ owns (c : Thread nD τ) (M.squeeze s' h) q X := by
    unfold owns
    iintro ⟨%f, %hf, H⟩
    iexists f
    isplitr
    · ipureintro; rw [hr, hf, shapeCast_shapeCast]
    · iapply (Entails.of_eq (hp f).symm) $$ H
  exact BI.equiv_iff.mp ⟨h₁, h₂⟩

theorem owns_sV (e : Bool) (j : ℕ) (h : j < 2) (q : PosShare TreeShare) (X : Vec F S256x2048 .f32) :
    (owns (c : Thread nD τ) (sV e j h) q X : sProp 𝕄) = owns (c : Thread nD τ) (sL e j h) q (shapeCast S1x256x2048 X shapeCasts_S256x2048_S1x256x2048) :=
  owns_squeeze c (sL e j h) squeezes_S1x256x2048_S256x2048 shapeCasts_S256x2048_S1x256x2048 q X

theorem owns_rV (e : Bool) (s j : ℕ) (hs : s < 3) (h : j < 2) (q : PosShare TreeShare) (X : Vec F S256x2048 .f32) :
    (owns (c : Thread nD τ) (rV e s j hs h) q X : sProp 𝕄)
      = owns (c : Thread nD τ) (rL e s j hs h) q (shapeCast S1x1x256x2048 X shapeCasts_S1x1x256x2048_S256x2048.symm) :=
  owns_squeeze c (rL e s j hs h) squeezes_S1x1x256x2048_S256x2048 _ q X

theorem load_sL (e : Bool) (j : ℕ) (h : j < 2) (X : S1x256x2048.Idx → Elt F .f32) {hl} {α : Type} {k : Vec F S1x256x2048 .f32 → PR F α} {Q : α → sProp 𝕄} :
    owns (c : Thread nD τ) (sL e j h) fullShare X ⊢ iprop((owns (c : Thread nD τ) (sL e j h) fullShare X -∗ WPk c (k X) Q)
      -∗ WPk c (.op (.load (sM e) (Rect.unit (s := S2x256x2048) ![j, 0, 0] S1x256x2048.size (inb_s h)).toLoadRect hl) k) Q) :=
  load_slice c (sM e) (Rect.unit (s := S2x256x2048) ![j, 0, 0] S1x256x2048.size (inb_s h)) (fun _ => rfl) hl fullShare X

theorem load_rL (e : Bool) (s j : ℕ) (hs : s < 3) (h : j < 2) (X : S1x1x256x2048.Idx → Elt F .f32) {hl} {α : Type} {k : Vec F S1x1x256x2048 .f32 → PR F α} {Q : α → sProp 𝕄} :
    owns (c : Thread nD τ) (rL e s j hs h) fullShare X ⊢ iprop((owns (c : Thread nD τ) (rL e s j hs h) fullShare X -∗ WPk c (k X) Q)
      -∗ WPk c (.op (.load (rM e) (Rect.unit (s := S3x2x256x2048) ![s, j, 0, 0] S1x1x256x2048.size (inb_r hs h)).toLoadRect hl) k) Q) :=
  load_slice c (rM e) (Rect.unit (s := S3x2x256x2048) ![s, j, 0, 0] S1x1x256x2048.size (inb_r hs h)) (fun _ => rfl) hl fullShare X

theorem store_sL (e : Bool) (j : ℕ) (h : j < 2) (X w : S1x256x2048.Idx → Elt F .f32) {hx hm} {α : Type} {k : PUnit → PR F α} {Q : α → sProp 𝕄} :
    owns (c : Thread nD τ) (sL e j h) fullShare X ⊢ iprop((owns (c : Thread nD τ) (sL e j h) fullShare w -∗ WPk c (k ⟨⟩) Q)
      -∗ WPk c (.op (.store (sM e) (Rect.unit (s := S2x256x2048) ![j, 0, 0] S1x256x2048.size (inb_s h)) w Finset.univ hx hm) k) Q) :=
  store_slice c (sM e) (Rect.unit (s := S2x256x2048) ![j, 0, 0] S1x256x2048.size (inb_s h)) (fun _ => rfl) X w

theorem ret_WPk {α : Type} {a : α} {Q : α → sProp 𝕄} : Q a ⊢ WPk c (.ret a) Q := by
  show Q a ⊢ wp frame _ Set.univ (.ret a) Q
  rw [wp_ret]; iintro H; imodintro; iexact H

theorem hz2 : (![0, 0] : Fin 2 → Nat) = fun _ => 0 := funext fun a => by fin_cases a <;> rfl

theorem emb_full {s : Shape} {off : Fin s.rank → ℕ} (h : off = fun _ => 0) (inb : ∀ a, off a + s.size a ≤ s.size a) (i : s.Idx) :
    (Rect.unit (s := s) off s.size inb).emb i = i := by subst h; exact Rect.emb_whole_apply _ i

/-- A store over a whole owned memref. -/
theorem store_full {cs : CoreSpace} {s : Shape} {e : EltTy} (M : Memref sig .tc cs s e) {off : Fin s.rank → ℕ} (h : off = fun _ => 0)
    (inb : ∀ a, off a + s.size a ≤ s.size a) (X w : s.Idx → Elt F e) {hx hm} {α : Type} {k : PUnit → PR F α} {Q : α → sProp 𝕄} :
    owns (c : Thread nD τ) M fullShare X ⊢ iprop((owns (c : Thread nD τ) M fullShare w -∗ WPk c (k ⟨⟩) Q)
      -∗ WPk c (.op (.store M (Rect.unit (s := s) off s.size inb) w Finset.univ hx hm) k) Q) := by
  unfold owns
  iintro ⟨%f, %hf, H⟩ Hk
  iapply (wp_store 𝒱₀ (c : Thread nD τ) none Set.univ (m := M) (r := Rect.unit (s := s) off s.size inb) (S := M.view.set)
    ((View.setOn_subset_set _ _).trans (View.set_slice_subset _ _))) $$ H
  iintro H
  iapply Hk
  iexists ((M.access (Rect.unit (s := s) off s.size inb)).write (Elt F) f w Finset.univ)
  isplitr
  · ipureintro
    funext i
    have e1 := congrFun (View.read_write_univ (v := M.access (Rect.unit (s := s) off s.size inb)) f w) i
    have e2 := emb_full h inb i
    refine Eq.trans ?_ e1
    exact (congrArg (M.view.read (Elt F) ((M.access (Rect.unit (s := s) off s.size inb)).write (Elt F) f w Finset.univ)) e2).symm
  · iexact H

/-- Half `j` of the first chunk's product goes into the running sum. -/
theorem wp_dot0 (e : Bool) (j : ℕ) (h : j < 2) (X : Vec F S512x1024 .f32) (W : Vec F S1024x2048 .f32) :
    iprop(owns (c : Thread nD τ) (xcM e) fullShare X ∗ owns (c : Thread nD τ) wM fullShare W ∗ ∃ Y, owns (c : Thread nD τ) (sV e j h) fullShare Y)
      ⊢ WP c (dot0 e j h) iprop(owns (c : Thread nD τ) (xcM e) fullShare X ∗ owns (c : Thread nD τ) wM fullShare W
        ∗ owns (c : Thread nD τ) (sV e j h) fullShare (dot256 (fun i => X ((Rect.unit (s := S512x1024) ![256 * j, 0] S256x1024.size (inb_xc h)).emb i)) W)) := by
  unfold dot0
  simp only [Prog.lift, Prog.bind_op, Prog.bind_ret]
  iintro ⟨HX, HW, ⟨%Y, HS⟩⟩
  ihave HS := (Entails.of_eq (owns_sV c e j h fullShare Y)) $$ HS
  iapply (load_owns c (xcM e) _ _ fullShare X) $$ HX
  iintro HX
  iapply (load_owns c wM _ _ fullShare W) $$ HW
  iintro HW
  iapply (load_sL c e j h _) $$ HS
  iintro HS
  iapply (store_sL c e j h _ _) $$ HS
  iintro HS
  iapply (ret_WPk c)
  isplitl [HX]; · iexact HX
  isplitl [HW]; · iexact HW
  rw [owns_sV]
  have e1 : (fun i => W ((Rect.unit (s := S1024x2048) ![0, 0] S1024x2048.size inb_S1024x2048_S1024x2048_0_0).emb i)) = W :=
    funext fun i => congrArg W (emb_full (s := S1024x2048) hz2 _ i)
  rw [e1]
  iexact HS

/-- A chunk's product goes into the product buffer. -/
theorem wp_dotP (e : Bool) (X : Vec F S512x1024 .f32) (W : Vec F S1024x2048 .f32) :
    iprop(owns (c : Thread nD τ) (xcM e) fullShare X ∗ owns (c : Thread nD τ) wM fullShare W ∗ ∃ Y, owns (c : Thread nD τ) (pM e) fullShare Y)
      ⊢ WP c (dotP e) iprop(owns (c : Thread nD τ) (xcM e) fullShare X ∗ owns (c : Thread nD τ) wM fullShare W
        ∗ owns (c : Thread nD τ) (pM e) fullShare (dot512 X W)) := by
  unfold dotP
  simp only [Prog.lift, Prog.bind_op, Prog.bind_ret]
  iintro ⟨HX, HW, ⟨%Y, HS⟩⟩
  iapply (load_owns c (xcM e) _ _ fullShare X) $$ HX
  iintro HX
  iapply (load_owns c wM _ _ fullShare W) $$ HW
  iintro HW
  iapply (load_owns c (pM e) _ _ fullShare Y) $$ HS
  iintro HS
  have e1 : (fun i => W ((Rect.unit (s := S1024x2048) ![0, 0] S1024x2048.size inb_S1024x2048_S1024x2048_0_0).emb i)) = W :=
    funext fun i => congrArg W (emb_full (s := S1024x2048) hz2 _ i)
  have e2 : (fun i => X ((Rect.unit (s := S512x1024) ![0, 0] S512x1024.size inb_S512x1024_S512x1024_0_0).emb i)) = X :=
    funext fun i => congrArg X (emb_full (s := S512x1024) hz2 _ i)
  rw [e1, e2, shapeCast_self]
  iapply (store_full c (pM e) hz2 inb_S512x2048_S512x2048_0_0 Y (dot512 X W)) $$ HS
  iintro HS
  iapply (ret_WPk c)
  isplitl [HX]; · iexact HX
  isplitl [HW]; · iexact HW
  iexact HS

/-- Half `j` of the product plus what landed goes into the running sum. -/
theorem wp_addP (e : Bool) (s j : ℕ) (hs : s < 3) (h : j < 2) (P : Vec F S512x2048 .f32) (R : Vec F S256x2048 .f32) :
    iprop(owns (c : Thread nD τ) (pM e) fullShare P ∗ owns (c : Thread nD τ) (rV e s j hs h) fullShare R ∗ ∃ Y, owns (c : Thread nD τ) (sV e j h) fullShare Y)
      ⊢ WP c (addP e s j hs h) iprop(owns (c : Thread nD τ) (pM e) fullShare P ∗ owns (c : Thread nD τ) (rV e s j hs h) fullShare R
        ∗ owns (c : Thread nD τ) (sV e j h) fullShare
          (addf (fun i => P ((Rect.unit (s := S512x2048) ![256 * j, 0] S256x2048.size (inb_p h)).emb i)) R)) := by
  unfold addP
  simp only [Prog.lift, Prog.bind_op, Prog.bind_ret]
  iintro ⟨HP, HR, ⟨%Y, HS⟩⟩
  ihave HS := (Entails.of_eq (owns_sV c e j h fullShare Y)) $$ HS
  ihave HR := (Entails.of_eq (owns_rV c e s j hs h fullShare R)) $$ HR
  iapply (load_owns c (pM e) _ _ fullShare P) $$ HP
  iintro HP
  iapply (load_rL c e s j hs h _) $$ HR
  iintro HR
  iapply (load_sL c e j h _) $$ HS
  iintro HS
  iapply (store_sL c e j h _ _) $$ HS
  iintro HS
  iapply (ret_WPk c)
  isplitl [HP]; · iexact HP
  rw [owns_sV, owns_rV]
  isplitl [HR]; · iexact HR
  rw [shapeCast_shapeCast]
  iexact HS

end Cert.KernelIdeal.Proofs

end
-- ==== Proof.Ideal.Local.lean ====
/-
The signals of the entry and the copies within a device: the loads of `x`'s chunks and the stores of the finished chunks.
-/
module

public import proofs.«01_k».proof.Proof.Ideal.Compute
public import Idealize.ShloMosaic.Lib.Batch

@[expose] public section

noncomputable section

namespace Cert.KernelIdeal.Proofs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg) (K : Dev nD × Cl → ℕ) (c : Dev nD)

/-! ## The entry -/

/-- What a device enters with: its two signals' tokens and what they hand over, and what it waits for its barrier with. -/
def EntryPre : sProp 𝕄 :=
  iprop(Env m ρ K ∗ (∃ W : Waits sig Unit, owes (c : Thread nD τ) (O₀ c) W)
    ∗ dutyTok ER (barCell (ch false c 1)) 0 false ∗ dutyTok ER (barCell (ch true c 1)) 0 true
    ∗ grant false c ∗ grant true c
    ∗ atPos ER (barCell c) 0 ∅ 0 ∗ cred (tallyAt (barCell c) () 2))

/-- After the entry the two neighbours' landing places are the device's to write. -/
theorem wp_entry (a b : Dev nD) (ha : a = ch false c 1) (hb : b = ch true c 1) :
    EntryPre m ρ K c ⊢ WP c (entry a b) iprop(Env m ρ K ∗ Ow c 0 ∗ semVal (barCell c) 0
      ∗ grant false (ch false c 3) ∗ grant true (ch true c 3)) := by
  subst ha hb
  unfold EntryPre entry Env O₀
  simp only [semSignalWord, semWaitWord, Prog.lift, Prog.bind_op, Prog.bind_ret]
  iintro ⟨⟨#HR, #HL⟩, ⟨%W, HO⟩, Ht1, Ht2, Hg1, Hg2, Hat, Hc⟩
  ihave #Hi1 := (inv_bar m ρ K (ch false c 1)) $$ HR
  ihave #Hi2 := (inv_bar m ρ K (ch true c 1)) $$ HR
  ihave #Hi := (inv_bar m ρ K c) $$ HR
  ihave #Hr1 := (reached_bar m ρ K (ch false c 1)) $$ HR
  ihave #Hr2 := (reached_bar m ρ K (ch true c 1)) $$ HR
  iapply (Rounds.wp_signal 𝒱₀ ER (ringRd m ρ) (c : Thread nD τ) none (dst := (ch false c 1 : Thread nD τ)) (κ := K (ch false c 1, none))
      (d := false) (by rw [duties_bar]; exact Finset.mem_univ _) ((amount_bar m ρ (ch false c 1) false).trans (by decide)) () (O₁ c) rfl)
    $$ [HO Ht1 Hg1]
  · isplitr; · iexact Hi1
    isplitl [HO]; · iexact HO
    isplitl [Ht1]; · iexact Ht1
    isplitl [Hg1]; · rw [payload_bar, ch_one_three]; iexact Hg1
    iexact Hr1
  iintro HO
  unfold O₁
  iapply (Rounds.wp_signal 𝒱₀ ER (ringRd m ρ) (c : Thread nD τ) none (dst := (ch true c 1 : Thread nD τ)) (κ := K (ch true c 1, none))
      (d := true) (by rw [duties_bar]; exact Finset.mem_univ _) ((amount_bar m ρ (ch true c 1) true).trans (by decide)) () (owedFrom c 0) rfl)
    $$ [HO Ht2 Hg2]
  · isplitr; · iexact Hi2
    isplitl [HO]; · iexact HO
    isplitl [Ht2]; · iexact Ht2
    isplitl [Hg2]; · rw [payload_bar, ch_one_three]; iexact Hg2
    iexact Hr2
  iintro HO
  iapply (Rounds.wp_wait_rest_token 𝒱₀ ER (ringRd m ρ) (c : Thread nD τ) none (κ := K (c, none))
      (wpE_semWait_eq 𝒱₀ (c : Thread nD τ) none Set.univ) (Set.mem_univ _) () (O := owedFrom c 0) (W := W) (R := 0) (m := 0) (T := ∅)
      (by rw [expect_bar]; decide)) $$ [Hc HO Hat]
  · isplitr; · iexact Hi
    isplitl [Hc]; · iexact Hc
    isplitl [HO]; · iexact HO
    isplitr; · iapply (mayWait_bar c); iexact HL
    iexact Hat
  iintro ⟨HO, Hat, -, Hpay⟩
  ihave Hp := (Entails.of_eq (rest_bar m ρ c)) $$ Hpay
  icases Hp with ⟨Hg1, Hg2⟩
  imod (Rounds.cell_close ER (ringRd m ρ) (Set.mem_univ (K (c, none))) (fun h => h) (R := 0 + 1) (duties_later m ρ (barCell c))) $$ [Hat] with Hz
  · isplitr; · iexact Hi
    iexact Hat
  iapply (ret_WPk c)
  isplitr; · isplitr; · iexact HR
             iexact HL
  isplitl [HO]; · unfold Ow; iexists _; iexact HO
  isplitl [Hz]; · iexact Hz
  isplitl [Hg1]; · iexact Hg1
  iexact Hg2

/-! ## The loads of `x` -/

/-- The share of `x` a direction's loads read with. -/
def shr (e : Bool) : PosShare TreeShare := if e then fullShare.right else fullShare.left

/-- `x`, held at a direction's share. -/
def Xh (e : Bool) : sProp 𝕄 := owns (c : Thread nD τ) xM (shr e) (xin m ρ c)

/-- The credit of a load of a chunk of `x`. -/
abbrev NX (e : Bool) : ℕ := (xcM e).view.dmaCredit
theorem NX_pos (e : Bool) : 0 < NX e := by cases e <;> exact View.dmaCredit_pos _ (by decide)

/-- The load of chunk `q` under way: what it delivers, and the rest of `x`. -/
def XFly (e : Bool) (q : Dev nD) : sProp 𝕄 :=
  iprop(∃ f : Buf (Elt F) (xM.view.loc (c : Thread nD τ)), ⌜xM.view.read (Elt F) f = xin m ρ c⌝
    ∗ Flight EC (c : Thread nD τ) (.dma (lS e).sem) () (NX e)
      iprop(owns (c : Thread nD τ) (xcM e) fullShare (xch m ρ c e q)
        ∗ (xM.view.loc (c : Thread nD τ) ↦[(xL ![row0 e q, 0] (inb_x e q)).view.set]{shr e} f))
    ∗ (xM.view.loc (c : Thread nD τ) ↦[xM.view.set \ (xL ![row0 e q, 0] (inb_x e q)).view.set]{shr e} f))

/-- A chunk's load is started. -/
theorem wp_loadX (e : Bool) (q : Dev nD) (off : Fin 2 → ℕ) (h) (ho : off = ![row0 e q, 0]) :
    iprop(Xh m ρ c e ∗ (∃ Y, owns (c : Thread nD τ) (xcM e) fullShare Y) ∗ semVal ((c : Thread nD τ), .dma (lS e).sem) 0)
      ⊢ WP c (loadX e off h) (XFly m ρ c e q) := by
  subst ho
  unfold Xh loadX Prog.lift WP XFly owns
  iintro ⟨⟨%f, %hf, HX⟩, ⟨%Y, %g, %hg, HC⟩, Hz⟩
  have hsub : (xL ![row0 e q, 0] (inb_x e q)).view.set ⊆ xM.view.set := View.set_slice_subset _ _
  ihave Hs := (pointsTo_split_subset hsub).1 $$ HX
  icases Hs with ⟨Hs, Hrest⟩
  iapply (wp_dmaLocal EC 𝒱₀ (c : Thread nD τ) none () (NX e) (sm := .dma (lS e).sem) rfl (NX_pos e) (Finset.Subset.refl _)) $$ [Hs HC Hz]
  · isplitl [Hs]; · iexact Hs
    isplitl [HC]; · iexact HC
    iexact Hz
  iintro HF
  rw [wp_ret]; imodintro
  iexists f
  isplitr; · ipureintro; exact hf
  isplitr [Hrest]
  rotate_left
  · iexact Hrest
  iapply (Flight_mono EC (c : Thread nD τ) ?_) $$ HF
  iintro ⟨HC, Hs⟩
  isplitl [HC]
  · iexists _
    isplitr
    rotate_left
    · iexact HC
    · ipureintro
      refine (View.read_write_univ (v := (xcM e).view) g _).trans ?_
      unfold xch; rw [← hf]; rfl
  · iexact Hs

/-- A chunk's load is waited for. -/
theorem wp_waitX (e : Bool) (q : Dev nD) (ns nr nw : ℕ) {sp sp' : Space} {s s' : Shape} (a : Memref sig .tc sp s .f32) (b : Memref sig .tc sp' s' .f32)
    (ha : a.view.WordExact) (hb : b.view.WordExact) (hN : b.view.dmaCredit = NX e) :
    iprop(Led m ρ K c ns nr nw ∗ XFly m ρ c e q)
      ⊢ WP c (waitD (lS e).sem a b ha hb) iprop(Led m ρ K c ns nr nw ∗ Xh m ρ c e ∗ owns (c : Thread nD τ) (xcM e) fullShare (xch m ρ c e q)
        ∗ semVal ((c : Thread nD τ), .dma (lS e).sem) 0) := by
  unfold waitD Prog.lift WP XFly
  iintro ⟨HL, ⟨%f, %hf, HF, Hrest⟩⟩
  ihave HL := (led_ow m ρ K c ns nr nw) $$ HL
  icases HL with ⟨#Hlev, HO, Hback⟩
  unfold Ow
  icases HO with ⟨%W, HO⟩
  iapply (wp_waitLocalO EC 𝒱₀ (c : Thread nD τ) none () hN) $$ [HF HO]
  · isplitl [HF]; · iexact HF
    isplitl [HO]; · iexact HO
    iapply (mayWait_zero c _ (lv_none c (role_lS e) ()) ns); iexact Hlev
  iintro ⟨⟨HC, Hs⟩, Hz, HO⟩
  rw [wp_ret]; imodintro
  isplitl [Hback HO]
  · iapply Hback; iexists _; iexact HO
  isplitl [Hs Hrest]
  · unfold Xh owns
    iexists f
    isplitr; · ipureintro; exact hf
    have hsub : (xL ![row0 e q, 0] (inb_x e q)).view.set ⊆ xM.view.set := View.set_slice_subset _ _
    iapply (pointsTo_split_subset hsub).2
    isplitl [Hs]; · iexact Hs
    iexact Hrest
  isplitl [HC]; · iexact HC
  iexact Hz

/-! ## The stores of the finished chunks -/

/-- What the store of half `j` delivers: the device's own chunk of its result, and the running sum's half share back. -/
def stD (e : Bool) (t : Fin 2) : sProp 𝕄 :=
  iprop(owns (c : Thread nD τ) (oC e (ch e c 3) t.val t.isLt) fullShare (acc m ρ e t.val t.isLt 3 c)
    ∗ owns (c : Thread nD τ) (sV e t.val t.isLt) fullShare.right (acc m ρ e t.val t.isLt 3 c))
instance stD_storable (e : Bool) (t : Fin 2) : BI.Storable (upEmb : UEmb _ 𝕄) (stD m ρ c e t) := by unfold stD; infer_instance

/-- A direction's two stores with `n` started and `u` of their credit waited for. -/
abbrev St (e : Bool) (n u : ℕ) : sProp 𝕄 := Batch EC (c : Thread nD τ) (.dma (lS e).sem) () N (stD m ρ c e) n u

/-- A copy within the device, one of two on its semaphore, of a memref held at some share. -/
theorem wp_copyB {sp sp' : Space} (A : Memref sig .tc sp S256x2048 .f32) (B : Memref sig .tc sp' S256x2048 .f32) (sm : DmaSem sig)
    {ha : A.view.WordExact} {hb : B.view.WordExact} {ht : DmaTarget.Typed (nD := nD) (τ := τ) (p := Proc.tc) sp (.dma sm) (.here B)} (hN : B.view.dmaCredit = N)
    (D : Fin 2 → sProp 𝕄) (j : ℕ) (h : j < 2) (q : PosShare TreeShare) (X : Vec F S256x2048 .f32)
    (hD : iprop(owns (c : Thread nD τ) B fullShare X ∗ owns (c : Thread nD τ) A q X) ⊢ D ⟨j, h⟩) :
    iprop(Batch EC (c : Thread nD τ) (.dma sm) () N D j 0 ∗ owns (c : Thread nD τ) A q X ∗ ∃ Y, owns (c : Thread nD τ) B fullShare Y)
      ⊢ WP c (Prog.lift (.enqueueDma A (.here B) (.dma sm) ha hb ht)) (Batch EC (c : Thread nD τ) (.dma sm) () N D (j + 1) 0) := by
  unfold Prog.lift WP
  iintro ⟨HB, HS, ⟨%Y, HC⟩⟩
  unfold owns
  icases HS with ⟨%f, %hf, HS⟩
  icases HC with ⟨%g, %hg, HC⟩
  iapply (wp_dmaBatch EC 𝒱₀ (c : Thread nD τ) none () N (sm := .dma sm) (D := D) (j := j) (u := 0) (fs := f) (fd := g) (q := q) hN (Finset.Subset.refl _) h (Nat.zero_le _)
    (by
      refine BIBase.Entails.trans ?_ hD
      unfold owns
      iintro ⟨HC, HS⟩
      isplitl [HC]
      · iexists _
        isplitr
        rotate_left
        · iexact HC
        · ipureintro; exact (View.read_write_univ (v := B.view) g (A.view.read (Elt F) f)).trans hf
      · iexists f
        isplitr; · ipureintro; exact hf
        iexact HS)) $$ [HB HS HC]
  · isplitl [HS]; · iexact HS
    isplitl [HC]; · iexact HC
    iexact HB
  iintro HB
  rw [wp_ret]; imodintro
  iexact HB

theorem oL_credit (off : Fin 2 → ℕ) (hb) : (oL off hb).view.dmaCredit = N := rfl

/-- The store of half `j` is started. -/
theorem wp_storeO (e : Bool) (j : ℕ) (h : j < 2) (off : Fin 2 → ℕ) (hb) (ho : off = ![row0 e (ch e c 3) + 256 * j, 0]) :
    iprop(St m ρ c e j 0 ∗ owns (c : Thread nD τ) (sV e j h) fullShare.right (acc m ρ e j h 3 c)
        ∗ ∃ Y, owns (c : Thread nD τ) (oC e (ch e c 3) j h) fullShare Y)
      ⊢ WP c (storeO e j h off hb) (St m ρ c e (j + 1) 0) := by
  subst ho
  exact wp_copyB c (sV e j h) (oC e (ch e c 3) j h) (lS e).sem (oL_credit _ _) (stD m ρ c e) j h fullShare.right (acc m ρ e j h 3 c) (Entails.refl _)

/-- The first wait for a direction's stores. -/
theorem wp_stored0 (e : Bool) (ns nr nw : ℕ) {sp sp' : Space} {s s' : Shape} (a : Memref sig .tc sp s .f32) (b : Memref sig .tc sp' s' .f32)
    (ha : a.view.WordExact) (hb : b.view.WordExact) (hN : b.view.dmaCredit = N) :
    iprop(Led m ρ K c ns nr nw ∗ St m ρ c e 2 0) ⊢ WP c (waitD (lS e).sem a b ha hb) iprop(Led m ρ K c ns nr nw ∗ St m ρ c e 2 N) := by
  unfold waitD Prog.lift WP
  iintro ⟨HL, HB⟩
  ihave HL := (led_ow m ρ K c ns nr nw) $$ HL
  icases HL with ⟨#Hlev, HO, Hback⟩
  unfold Ow
  icases HO with ⟨%W, HO⟩
  iapply (wp_waitBatchO EC 𝒱₀ (c : Thread nD τ) none () (n := 2) (u := 0) hN (by have := N_pos; omega)) $$ [HB HO]
  · isplitl [HB]; · iexact HB
    isplitl [HO]; · iexact HO
    iapply (mayWait_zero c _ (lv_none c (role_lS e) ()) ns); iexact Hlev
  iintro ⟨HB, HO⟩
  rw [wp_ret]; imodintro
  isplitl [Hback HO]
  · iapply Hback; iexists _; iexact HO
  rw [Nat.zero_add]
  iexact HB

theorem stD_both (e : Bool) : bigSep Finset.univ (stD m ρ c e) = iprop(stD m ρ c e 0 ∗ stD m ρ c e 1) := by
  rw [bigSep_univ_eq_bigSepL [(0 : Fin 2), 1] (by decide) (by decide), bigSepL_cons_cons, bigSepL_singleton]
  rfl

/-- The second one: both stores are done. -/
theorem wp_stored1 (e : Bool) (ns nr nw : ℕ) {sp sp' : Space} {s s' : Shape} (a : Memref sig .tc sp s .f32) (b : Memref sig .tc sp' s' .f32)
    (ha : a.view.WordExact) (hb : b.view.WordExact) (hN : b.view.dmaCredit = N) :
    iprop(Led m ρ K c ns nr nw ∗ St m ρ c e 2 N)
      ⊢ WP c (waitD (lS e).sem a b ha hb) iprop(Led m ρ K c ns nr nw ∗ stD m ρ c e 0 ∗ stD m ρ c e 1 ∗ semVal ((c : Thread nD τ), .dma (lS e).sem) 0) := by
  unfold waitD Prog.lift WP
  iintro ⟨HL, HB⟩
  ihave HL := (led_ow m ρ K c ns nr nw) $$ HL
  icases HL with ⟨#Hlev, HO, Hback⟩
  unfold Ow
  icases HO with ⟨%W, HO⟩
  iapply (wp_waitBatchLastO EC 𝒱₀ (c : Thread nD τ) none () (n := 2) (u := N) hN N_pos (by omega)) $$ [HB HO]
  · isplitl [HB]; · iexact HB
    isplitl [HO]; · iexact HO
    iapply (mayWait_zero c _ (lv_none c (role_lS e) ()) ns); iexact Hlev
  iintro ⟨HD, Hz, HO⟩
  rw [wp_ret]; imodintro
  isplitl [Hback HO]
  · iapply Hback; iexists _; iexact HO
  ihave HD := (Entails.of_eq (stD_both m ρ c e)) $$ HD
  icases HD with ⟨H0, H1⟩
  isplitl [H0]; · iexact H0
  isplitl [H1]; · iexact H1
  iexact Hz

end Cert.KernelIdeal.Proofs

end
-- ==== Proof.Ideal.Ring.lean ====
/-
The remote copies one by one: which device they go to, what they take and what they give back.
-/
module

public import proofs.«01_k».proof.Proof.Ideal.Local

@[expose] public section

noncomputable section

namespace Cert.KernelIdeal.Proofs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg) (K : Dev nD × Cl → ℕ) (c : Dev nD)

/-! ## The numbers of the copies -/

/-- The number of the reduction's copy at step `s`, half `j`, direction `e`; `s = 3, 4, 5` are the gather's steps. -/
abbrev ix (e : Bool) (s j : ℕ) : ℕ := 4 * s + 2 * j + e.toNat

theorem ix_dir (e : Bool) (s j : ℕ) : dir (ix e s j) = e := by
  unfold dir ix; cases e <;> simp <;> omega
theorem ix_half (e : Bool) (s j : ℕ) : ix e s j / 2 = 2 * s + j := by unfold ix; cases e <;> simp <;> omega
theorem ix_s (e : Bool) (s j : ℕ) (h : j < 2) : ix e s j / 2 / 2 = s := by rw [ix_half]; omega
theorem ix_j (e : Bool) (s j : ℕ) (h : j < 2) : ix e s j / 2 % 2 = j := by rw [ix_half]; omega
theorem ix_lt (e : Bool) (s j : ℕ) (hs : s < 6) (h : j < 2) : ix e s j < 24 := by unfold ix; cases e <;> simp <;> omega

theorem sndI_of (i k : ℕ) (e : Bool) (hk : k < 12) (he : dir i = e) (h : i / 2 % 12 = k) : sndS e k hk = sndI i := by subst he h; rfl
theorem rcvI_of (i k : ℕ) (e : Bool) (hk : k < 12) (he : dir i = e) (h : i / 2 % 12 = k) : rcvS e k hk = rcvI i := by subst he h; rfl
theorem sndS_ix (e : Bool) (s j k : ℕ) (hs : s < 6) (h : j < 2) (hk : k < 12) (hkk : k = 2 * s + j) : sndS e k hk = sndI (ix e s j) :=
  sndI_of _ _ _ hk (ix_dir e s j) (by rw [ix_half]; omega)
theorem rcvS_ix (e : Bool) (s j k : ℕ) (hs : s < 6) (h : j < 2) (hk : k < 12) (hkk : k = 2 * s + j) : rcvS e k hk = rcvI (ix e s j) :=
  rcvI_of _ _ _ hk (ix_dir e s j) (by rw [ix_half]; omega)

/-! ## What they carry -/

theorem dstOwn_red (i s j : ℕ) (e : Bool) (he : dir i = e) (h₁ : i / 2 / 2 = s) (h₂ : i / 2 % 2 = j) (hs : s < 3) (h : j < 2) (d : Dev nD)
    (X : Vec F S256x2048 .f32) : (dstOwn d i X : sProp 𝕄) = owns (d : Thread nD τ) (rV e s j hs h) fullShare X := by
  subst he h₁ h₂; exact dif_pos hs
theorem dstOwn_gat (i t j : ℕ) (e : Bool) (he : dir i = e) (h₁ : i / 2 / 2 = 3 + t) (h₂ : i / 2 % 2 = j) (h : j < 2) (d : Dev nD)
    (X : Vec F S256x2048 .f32) : (dstOwn d i X : sProp 𝕄) = owns (d : Thread nD τ) (oC e (ch e d t) j h) fullShare X := by
  obtain rfl : i / 2 / 2 - 3 = t := by omega
  subst he h₂; exact dif_neg (by omega)
theorem val_red (i s j : ℕ) (e : Bool) (he : dir i = e) (h₁ : i / 2 / 2 = s) (h₂ : i / 2 % 2 = j) (hs : s < 3) (h : j < 2) (d : Dev nD) :
    val m ρ d i = acc m ρ e j h s (ch e d 1) := by
  subst he h₁ h₂; exact if_pos hs
theorem val_gat (i t j : ℕ) (e : Bool) (he : dir i = e) (h₁ : i / 2 / 2 = 3 + t) (h₂ : i / 2 % 2 = j) (h : j < 2) (d : Dev nD) :
    val m ρ d i = fin m ρ e (ch e d t) j h := by
  obtain rfl : i / 2 / 2 - 3 = t := by omega
  subst he h₂; exact if_neg (by omega)
theorem sndPay_red (i s j : ℕ) (e : Bool) (he : dir i = e) (h₁ : i / 2 / 2 = s) (h₂ : i / 2 % 2 = j) (hs : s < 3) (h : j < 2) :
    sndPay m ρ c i = owns (c : Thread nD τ) (sV e j h) fullShare (acc m ρ e j h s c) := by
  subst he h₁ h₂; exact if_pos hs
theorem sndPay_fst (i j : ℕ) (e : Bool) (he : dir i = e) (h₁ : i / 2 / 2 = 3) (h₂ : i / 2 % 2 = j) (h : j < 2) :
    sndPay m ρ c i = owns (c : Thread nD τ) (sV e j h) fullShare.left (acc m ρ e j h 3 c) := by
  subst he h₂; exact (if_neg (by omega)).trans (if_pos h₁)
theorem sndPay_fwd (i t j : ℕ) (e : Bool) (he : dir i = e) (h₁ : i / 2 / 2 = 4 + t) (h₂ : i / 2 % 2 = j) (h : j < 2) :
    sndPay m ρ c i = owns (c : Thread nD τ) (oC e (ch e c t) j h) fullShare (fin m ρ e (ch e c t) j h) := by
  obtain rfl : i / 2 / 2 - 4 = t := by omega
  subst he h₂; exact (if_neg (by omega)).trans (if_neg (by omega))

theorem rV_credit (e : Bool) (s j : ℕ) (hs : s < 3) (h : j < 2) : (rV e s j hs h).view.dmaCredit = N := by cases e <;> rfl
theorem sV_credit (e : Bool) (j : ℕ) (h : j < 2) : (sV e j h).view.dmaCredit = N := by cases e <;> rfl

/-! ## The reduction's copies -/

/-- The reduction's copy at step `s` takes the running sum. -/
theorem wp_sendR (e : Bool) (s j : ℕ) (hs : s < 3) (h : j < 2) (i : ℕ) (hi : i = ix e s j) (n : Dev nD) (hn : n = ch e c 3) (nr nw : ℕ) (hw : nw ≤ i) :
    iprop(Led m ρ K c (i) nr nw ∗ owns (c : Thread nD τ) (sV e j h) fullShare (acc m ρ e j h s c))
      ⊢ WP c (sendR e s j hs h n) (Led m ρ K c (i + 1) nr nw) := by
  subst hi
  have hd := ix_dir e s j
  refine led_send m ρ K c (ix_lt e s j (by omega) h) hw _ _ (sndS_ix e s j _ (by omega) h _ rfl) (rcvS_ix e s j _ (by omega) h _ rfl) n
    (by unfold tgt; rw [hd]; exact hn) (sV e j h) (rV e s j hs h) _ _ _ _ (rV_credit e s j hs h) fullShare (acc m ρ e j h s c)
    (sndPay_red m ρ c _ s j e hd (ix_s e s j h) (ix_j e s j h) hs h)
    (fun Y => dstOwn_red _ s j e hd (ix_s e s j h) (ix_j e s j h) hs h _ Y) ?_
  rw [val_red m ρ _ s j e hd (ix_s e s j h) (ix_j e s j h) hs h]
  unfold tgt; rw [hd, ch_three_one]

/-- One half of one direction of a reduction step: the next running sum. -/
theorem wp_recvAdd (e : Bool) (s j : ℕ) (hs : s < 3) (h : j < 2) (i : ℕ) (hi : i = ix e s j) (ns : ℕ) (hns : i / 2 < ns / 2) (hle : ns ≤ 24) :
    iprop(Led m ρ K c ns (i) (i) ∗ owns (c : Thread nD τ) (pM e) fullShare (dot512 (xch m ρ c e (ch e c (s + 1))) (win m ρ c)))
      ⊢ WP c (recvAdd e s j hs h) iprop(Led m ρ K c ns (i + 1) (i + 1)
        ∗ owns (c : Thread nD τ) (pM e) fullShare (dot512 (xch m ρ c e (ch e c (s + 1))) (win m ρ c))
        ∗ (∃ Y, owns (c : Thread nD τ) (rV e s j hs h) fullShare Y)
        ∗ owns (c : Thread nD τ) (sV e j h) fullShare (acc m ρ e j h (s + 1) c)) := by
  subst hi
  have hd := ix_dir e s j
  have h1 := sndPay_red m ρ c _ s j e hd (ix_s e s j h) (ix_j e s j h) hs h
  have h2 : rcvPay m ρ c (ix e s j) = owns (c : Thread nD τ) (rV e s j hs h) fullShare (acc m ρ e j h s (ch e c 1)) := by
    unfold rcvPay
    rw [dstOwn_red _ s j e hd (ix_s e s j h) (ix_j e s j h) hs h, val_red m ρ _ s j e hd (ix_s e s j h) (ix_j e s j h) hs h]
  unfold recvAdd
  iintro ⟨HL, HP⟩
  iapply (seq c (led_sent m ρ K c (ns := ns) (nr := ix e s j) (nw := ix e s j) (by omega) hle _ (sndS_ix e s j _ (by omega) h _ rfl) _ _ _ _ (sV_credit e j h))) $$ [HL]
  · iexact HL
  iintro ⟨HL, HS⟩
  ihave HS := (Entails.of_eq h1) $$ HS
  iapply (seq c (led_recv m ρ K c (ns := ns) (nr := ix e s j) (nw := ix e s j + 1) (ix_lt e s j (by omega) h) hns _ (rcvS_ix e s j _ (by omega) h _ rfl) _ _ _ _ (rV_credit e s j hs h))) $$ [HL]
  · iexact HL
  iintro ⟨HL, HR⟩
  ihave HR := (Entails.of_eq h2) $$ HR
  iapply (fin_seq c (wp_addP c e s j hs h (dot512 (xch m ρ c e (ch e c (s + 1))) (win m ρ c)) (acc m ρ e j h s (ch e c 1)))) $$ [HP HR HS]
  · isplitl [HP]; · iexact HP
    isplitl [HR]; · iexact HR
    iexists _; iexact HS
  iintro ⟨HP, HR, HS⟩
  isplitl [HL]; · iexact HL
  isplitl [HP]; · iexact HP
  isplitl [HR]; · iexists _; iexact HR
  iexact HS

/-! ## The gather's copies -/

/-- The gather's first copy takes half a share of the finished half chunk. -/
theorem wp_sendG (e : Bool) (j : ℕ) (h : j < 2) (i : ℕ) (hi : i = ix e 3 j) (off : Fin 2 → ℕ) (hb) (ho : off = ![row0 e (ch e c 3) + 256 * j, 0]) (n : Dev nD) (hn : n = ch e c 3)
    (nr nw : ℕ) (hw : nw ≤ i) :
    iprop(Led m ρ K c (i) nr nw ∗ owns (c : Thread nD τ) (sV e j h) fullShare.left (acc m ρ e j h 3 c))
      ⊢ WP c (sendG e j h off hb n) (Led m ρ K c (i + 1) nr nw) := by
  subst hi
  subst ho
  have hd := ix_dir e 3 j
  refine led_send m ρ K c (ix_lt e 3 j (by omega) h) hw _ _ (sndS_ix e 3 j _ (by omega) h _ (by omega)) (rcvS_ix e 3 j _ (by omega) h _ (by omega)) n
    (by unfold tgt; rw [hd]; exact hn) (sV e j h) (oC e (ch e c 3) j h) _ _ _ _ (oL_credit _ _) fullShare.left (acc m ρ e j h 3 c)
    (sndPay_fst m ρ c _ j e hd (ix_s e 3 j h) (ix_j e 3 j h) h) (fun Y => ?_) ?_
  · rw [dstOwn_gat _ 0 j e hd (ix_s e 3 j h) (ix_j e 3 j h) h]
    unfold tgt; rw [hd, ch_zero]
  · rw [val_gat m ρ _ 0 j e hd (ix_s e 3 j h) (ix_j e 3 j h) h]
    unfold tgt fin; rw [hd, ch_zero, ch_three_one]

/-- The gather's later copies take half a chunk of the result: step `t + 1` the chunk that came in step `t`. -/
theorem wp_sendF (e : Bool) (t j : ℕ) (ht : t < 2) (h : j < 2) (i : ℕ) (hi : i = ix e (4 + t) j) (k : ℕ) (hk : k < 12) (hkk : k = 2 * (4 + t) + j) (off : Fin 2 → ℕ) (hb)
    (ho : off = ![row0 e (ch e c t) + 256 * j, 0]) (n : Dev nD) (hn : n = ch e c 3) (nr nw : ℕ) (hw : nw ≤ i) :
    iprop(Led m ρ K c (i) nr nw ∗ owns (c : Thread nD τ) (oC e (ch e c t) j h) fullShare (fin m ρ e (ch e c t) j h))
      ⊢ WP c (sendF e k hk off hb n) (Led m ρ K c (i + 1) nr nw) := by
  subst hi
  subst ho
  have hd := ix_dir e (4 + t) j
  have hc : ch e (ch e c 3) (1 + t) = ch e c t := by rw [ch_ch, show 3 + (1 + t) = t + 4 by omega, ch_four]
  refine led_send m ρ K c (ix_lt e (4 + t) j (by omega) h) hw _ _ (sndS_ix e (4 + t) j _ (by omega) h _ hkk) (rcvS_ix e (4 + t) j _ (by omega) h _ hkk) n
    (by unfold tgt; rw [hd]; exact hn) (oC e (ch e c t) j h) (oC e (ch e c t) j h) _ _ _ _ (oL_credit _ _) fullShare (fin m ρ e (ch e c t) j h)
    (sndPay_fwd m ρ c _ t j e hd (ix_s e (4 + t) j h) (ix_j e (4 + t) j h) h) (fun Y => ?_) ?_
  · rw [dstOwn_gat _ (1 + t) j e hd ((ix_s e (4 + t) j h).trans (by omega)) (ix_j e (4 + t) j h) h]
    unfold tgt; rw [hd, hc]
  · rw [val_gat m ρ _ (1 + t) j e hd ((ix_s e (4 + t) j h).trans (by omega)) (ix_j e (4 + t) j h) h]
    unfold tgt; rw [hd, hc]

/-- The arrival of the gather's step `t` is a finished half chunk. -/
theorem wp_recvC (e : Bool) (t j : ℕ) (ht : t < 3) (h : j < 2) (i : ℕ) (hi : i = ix e (3 + t) j) (ns nw : ℕ) (hns : i / 2 < ns / 2) (q : DmaSem sig) (hq : q = rcvI (i))
    {sp sp' : Space} {s s' : Shape} (a : Memref sig .tc sp s .f32) (b : Memref sig .tc sp' s' .f32)
    (ha : a.view.WordExact) (hb : b.view.WordExact) (hN : b.view.dmaCredit = N) :
    Led m ρ K c ns (i) nw ⊢ WP c (waitD q a b ha hb) iprop(Led m ρ K c ns (i + 1) nw
      ∗ owns (c : Thread nD τ) (oC e (ch e c t) j h) fullShare (fin m ρ e (ch e c t) j h)) := by
  subst hi
  have hd := ix_dir e (3 + t) j
  have h2 : rcvPay m ρ c (ix e (3 + t) j) = owns (c : Thread nD τ) (oC e (ch e c t) j h) fullShare (fin m ρ e (ch e c t) j h) := by
    unfold rcvPay
    rw [dstOwn_gat _ t j e hd (ix_s e (3 + t) j h) (ix_j e (3 + t) j h) h, val_gat m ρ _ t j e hd (ix_s e (3 + t) j h) (ix_j e (3 + t) j h) h]
  rw [← h2]
  exact led_recv m ρ K c (ix_lt e (3 + t) j (by omega) h) hns q hq a b ha hb hN

/-- The gather's first copy read at its source: the share of the running sum is back. -/
theorem wp_sentS (e : Bool) (j : ℕ) (h : j < 2) (i : ℕ) (hi : i = ix e 3 j) (ns nr : ℕ) (hns : i < ns) (hle : ns ≤ 24) (q : DmaSem sig) (hq : q = sndI (i))
    {sp sp' : Space} {s s' : Shape} (a : Memref sig .tc sp s .f32) (b : Memref sig .tc sp' s' .f32)
    (ha : a.view.WordExact) (hb : b.view.WordExact) (hN : b.view.dmaCredit = N) :
    Led m ρ K c ns nr (i) ⊢ WP c (waitD q a b ha hb) iprop(Led m ρ K c ns nr (i + 1)
      ∗ owns (c : Thread nD τ) (sV e j h) fullShare.left (acc m ρ e j h 3 c)) := by
  subst hi
  rw [← sndPay_fst m ρ c _ j e (ix_dir e 3 j) (ix_s e 3 j h) (ix_j e 3 j h) h]
  exact led_sent m ρ K c hns hle q hq a b ha hb hN

/-- A later copy of the gather read at its source: the half chunk is back. -/
theorem wp_sentC (e : Bool) (t j : ℕ) (h : j < 2) (i : ℕ) (hi : i = ix e (4 + t) j) (ns nr : ℕ) (hns : i < ns) (hle : ns ≤ 24) (q : DmaSem sig) (hq : q = sndI (i))
    {sp sp' : Space} {s s' : Shape} (a : Memref sig .tc sp s .f32) (b : Memref sig .tc sp' s' .f32)
    (ha : a.view.WordExact) (hb : b.view.WordExact) (hN : b.view.dmaCredit = N) :
    Led m ρ K c ns nr (i) ⊢ WP c (waitD q a b ha hb) iprop(Led m ρ K c ns nr (i + 1)
      ∗ owns (c : Thread nD τ) (oC e (ch e c t) j h) fullShare (fin m ρ e (ch e c t) j h)) := by
  subst hi
  rw [← sndPay_fwd m ρ c _ t j e (ix_dir e (4 + t) j) (ix_s e (4 + t) j h) (ix_j e (4 + t) j h) h]
  exact led_sent m ρ K c hns hle q hq a b ha hb hN

end Cert.KernelIdeal.Proofs

end
-- ==== Proof.Ideal.Addr.lean ====
/-
The rows and the devices the body computes, as chunks and neighbours.
-/
module

public import proofs.«01_k».proof.Proof.Ideal.Sched

@[expose] public section

noncomputable section

namespace Cert.KernelIdeal.Proofs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem off1_row : ∀ d : Dev nD, k0_off1 d = ![row0 false d, 0] := by decide +kernel
theorem off2_row : ∀ d : Dev nD, k0_off2 d = ![row0 true d, 0] := by decide +kernel
theorem off3_row0 : ∀ d : Dev nD, k0_off3 d 0#32 = ![row0 false (ch false d (0 + 1)), 0] := by decide +kernel
theorem off3_row1 : ∀ d : Dev nD, k0_off3 d 1#32 = ![row0 false (ch false d (1 + 1)), 0] := by decide +kernel
theorem off3_row2 : ∀ d : Dev nD, k0_off3 d 2#32 = ![row0 false (ch false d (2 + 1)), 0] := by decide +kernel
theorem off4_row0 : ∀ d : Dev nD, k0_off4 d 0#32 = ![row0 true (ch true d (0 + 1)), 0] := by decide +kernel
theorem off4_row1 : ∀ d : Dev nD, k0_off4 d 1#32 = ![row0 true (ch true d (1 + 1)), 0] := by decide +kernel
theorem off4_row2 : ∀ d : Dev nD, k0_off4 d 2#32 = ![row0 true (ch true d (2 + 1)), 0] := by decide +kernel
theorem off5_row0 : ∀ d : Dev nD, k0_off5 d 0#32 = ![row0 false (ch false d 3) + 256 * 0, 0] := by decide +kernel
theorem off5_row1 : ∀ d : Dev nD, k0_off5 d 256#32 = ![row0 false (ch false d 3) + 256 * 1, 0] := by decide +kernel
theorem off6_row0 : ∀ d : Dev nD, k0_off6 d 0#32 = ![row0 true (ch true d 3) + 256 * 0, 0] := by decide +kernel
theorem off6_row1 : ∀ d : Dev nD, k0_off6 d 256#32 = ![row0 true (ch true d 3) + 256 * 1, 0] := by decide +kernel
theorem off7_row00 : ∀ d : Dev nD, k0_off7 d 1#32 0#32 = ![row0 false (ch false d 0) + 256 * 0, 0] := by decide +kernel
theorem off7_row01 : ∀ d : Dev nD, k0_off7 d 1#32 256#32 = ![row0 false (ch false d 0) + 256 * 1, 0] := by decide +kernel
theorem off7_row10 : ∀ d : Dev nD, k0_off7 d 2#32 0#32 = ![row0 false (ch false d 1) + 256 * 0, 0] := by decide +kernel
theorem off7_row11 : ∀ d : Dev nD, k0_off7 d 2#32 256#32 = ![row0 false (ch false d 1) + 256 * 1, 0] := by decide +kernel
theorem off8_row00 : ∀ d : Dev nD, k0_off8 d 1#32 0#32 = ![row0 true (ch true d 0) + 256 * 0, 0] := by decide +kernel
theorem off8_row01 : ∀ d : Dev nD, k0_off8 d 1#32 256#32 = ![row0 true (ch true d 0) + 256 * 1, 0] := by decide +kernel
theorem off8_row10 : ∀ d : Dev nD, k0_off8 d 2#32 0#32 = ![row0 true (ch true d 1) + 256 * 0, 0] := by decide +kernel
theorem off8_row11 : ∀ d : Dev nD, k0_off8 d 2#32 256#32 = ![row0 true (ch true d 1) + 256 * 1, 0] := by decide +kernel
theorem dev1_at : ∀ d : Dev nD, (⟨k0_dev1 d, k0_dev1_lt d⟩ : Dev nD) = ch false d 1 := by decide +kernel
theorem dev2_at : ∀ d : Dev nD, (⟨k0_dev2 d, k0_dev2_lt d⟩ : Dev nD) = ch true d 1 := by decide +kernel
theorem dev3_at : ∀ d : Dev nD, (⟨k0_dev3 d, k0_dev3_lt d⟩ : Dev nD) = ch false d 3 := by decide +kernel
theorem dev4_at : ∀ d : Dev nD, (⟨k0_dev4 d, k0_dev4_lt d⟩ : Dev nD) = ch true d 3 := by decide +kernel
theorem dev5_at : ∀ d : Dev nD, (⟨k0_dev5 d, k0_dev5_lt d⟩ : Dev nD) = ch false d 3 := by decide +kernel
theorem dev6_at : ∀ d : Dev nD, (⟨k0_dev6 d, k0_dev6_lt d⟩ : Dev nD) = ch true d 3 := by decide +kernel
theorem dev7_at : ∀ d : Dev nD, (⟨k0_dev7 d, k0_dev7_lt d⟩ : Dev nD) = ch false d 3 := by decide +kernel
theorem dev8_at : ∀ d : Dev nD, (⟨k0_dev8 d, k0_dev8_lt d⟩ : Dev nD) = ch true d 3 := by decide +kernel
theorem dev9_at : ∀ d : Dev nD, (⟨k0_dev9 d, k0_dev9_lt d⟩ : Dev nD) = ch false d 3 := by decide +kernel
theorem dev10_at : ∀ d : Dev nD, (⟨k0_dev10 d, k0_dev10_lt d⟩ : Dev nD) = ch true d 3 := by decide +kernel
theorem dev11_at : ∀ d : Dev nD, (⟨k0_dev11 d, k0_dev11_lt d⟩ : Dev nD) = ch false d 3 := by decide +kernel
theorem dev12_at : ∀ d : Dev nD, (⟨k0_dev12 d, k0_dev12_lt d⟩ : Dev nD) = ch true d 3 := by decide +kernel
theorem dev13_at : ∀ d : Dev nD, (⟨k0_dev13 d, k0_dev13_lt d⟩ : Dev nD) = ch false d 3 := by decide +kernel
theorem dev14_at : ∀ d : Dev nD, (⟨k0_dev14 d, k0_dev14_lt d⟩ : Dev nD) = ch true d 3 := by decide +kernel
theorem dev15_at : ∀ d : Dev nD, (⟨k0_dev15 d, k0_dev15_lt d⟩ : Dev nD) = ch false d 3 := by decide +kernel
theorem dev16_at : ∀ d : Dev nD, (⟨k0_dev16 d, k0_dev16_lt d⟩ : Dev nD) = ch true d 3 := by decide +kernel
theorem dev17_at : ∀ d : Dev nD, (⟨k0_dev17 d, k0_dev17_lt d⟩ : Dev nD) = ch false d 3 := by decide +kernel
theorem dev18_at : ∀ d : Dev nD, (⟨k0_dev18 d, k0_dev18_lt d⟩ : Dev nD) = ch true d 3 := by decide +kernel
theorem dev19_at : ∀ d : Dev nD, (⟨k0_dev19 d, k0_dev19_lt d⟩ : Dev nD) = ch false d 3 := by decide +kernel
theorem dev20_at : ∀ d : Dev nD, (⟨k0_dev20 d, k0_dev20_lt d⟩ : Dev nD) = ch true d 3 := by decide +kernel
theorem dev21_at : ∀ d : Dev nD, (⟨k0_dev21 d, k0_dev21_lt d⟩ : Dev nD) = ch false d 3 := by decide +kernel
theorem dev22_at : ∀ d : Dev nD, (⟨k0_dev22 d, k0_dev22_lt d⟩ : Dev nD) = ch true d 3 := by decide +kernel
theorem dev23_at : ∀ d : Dev nD, (⟨k0_dev23 d, k0_dev23_lt d⟩ : Dev nD) = ch false d 3 := by decide +kernel
theorem dev24_at : ∀ d : Dev nD, (⟨k0_dev24 d, k0_dev24_lt d⟩ : Dev nD) = ch true d 3 := by decide +kernel
theorem dev25_at : ∀ d : Dev nD, (⟨k0_dev25 d, k0_dev25_lt d⟩ : Dev nD) = ch false d 3 := by decide +kernel
theorem dev26_at : ∀ d : Dev nD, (⟨k0_dev26 d, k0_dev26_lt d⟩ : Dev nD) = ch true d 3 := by decide +kernel

end Cert.KernelIdeal.Proofs

end
-- ==== Proof.Ideal.Phases.lean ====
/-
The phases of the body: each takes the ledger and the buffers from one state to the next.
-/
module

public import proofs.«01_k».proof.Proof.Ideal.Ring
public import proofs.«01_k».proof.Proof.Ideal.Addr
public import Idealize.ShloMosaic.Lib.MemrefSat

@[expose] public section

noncomputable section

namespace Cert.KernelIdeal.Proofs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg) (K : Dev nD × Cl → ℕ) (c : Dev nD)

/-! ## The buffers between the phases -/

/-- The device's rows of `w`, staged. -/
def Wm : sProp 𝕄 := owns (c : Thread nD τ) wM fullShare (win m ρ c)
/-- A direction's product buffer at the product of chunk `q`. -/
abbrev Pq (e : Bool) (q : Dev nD) : sProp 𝕄 := owns (c : Thread nD τ) (pM e) fullShare (dot512 (xch m ρ c e q) (win m ρ c))
/-- A direction's running sum of half `j` after step `s`. -/
abbrev Sm (e : Bool) (s j : ℕ) (h : j < 2) : sProp 𝕄 := owns (c : Thread nD τ) (sV e j h) fullShare (acc m ρ e j h s c)
/-- A direction's running sum of half `j` at any contents. -/
abbrev SA (e : Bool) (j : ℕ) (h : j < 2) : sProp 𝕄 := iprop(∃ Y, owns (c : Thread nD τ) (sV e j h) fullShare Y)
/-- A landing slot at any contents. -/
abbrev RA (e : Bool) (s j : ℕ) (hs : s < 3) (h : j < 2) : sProp 𝕄 := iprop(∃ Y, owns (c : Thread nD τ) (rV e s j hs h) fullShare Y)
/-- The landing slots of step `s`. -/
def Slots (s : ℕ) (hs : s < 3) : sProp 𝕄 :=
  iprop(RA c false s 0 hs (by decide) ∗ RA c true s 0 hs (by decide) ∗ RA c false s 1 hs (by decide) ∗ RA c true s 1 hs (by decide))
/-- A direction's chunk buffer at any contents. -/
abbrev CA (e : Bool) : sProp 𝕄 := iprop(∃ Y, owns (c : Thread nD τ) (xcM e) fullShare Y)
/-- A direction's product buffer at any contents. -/
abbrev PA (e : Bool) : sProp 𝕄 := iprop(∃ Y, owns (c : Thread nD τ) (pM e) fullShare Y)
/-- A direction's semaphore of its local copies, at zero. -/
abbrev Zl (e : Bool) : sProp 𝕄 := semVal ((c : Thread nD τ), .dma (lS e).sem) 0
/-- What a direction keeps between the steps. -/
def Base (e : Bool) : sProp 𝕄 := iprop(Xh m ρ c e ∗ CA c e ∗ PA c e ∗ Zl c e)
/-- The share of the running sum of half `j` of the finished chunk that the store reads, -/
abbrev ShR (e : Bool) (j : ℕ) (h : j < 2) : sProp 𝕄 := owns (c : Thread nD τ) (sV e j h) fullShare.right (acc m ρ e j h 3 c)
/-- and the one that the send reads. -/
abbrev ShL (e : Bool) (j : ℕ) (h : j < 2) : sProp 𝕄 := owns (c : Thread nD τ) (sV e j h) fullShare.left (acc m ρ e j h 3 c)
/-- Half `j` of a chunk of the result, finished. -/
abbrev Cf (e : Bool) (t j : ℕ) (h : j < 2) : sProp 𝕄 := owns (c : Thread nD τ) (oC e (ch e c t) j h) fullShare (fin m ρ e (ch e c t) j h)
/-- Half `j` of the device's own chunk of the result, at any contents. -/
abbrev OA (e : Bool) (j : ℕ) (h : j < 2) : sProp 𝕄 := iprop(∃ Y, owns (c : Thread nD τ) (oC e (ch e c 3) j h) fullShare Y)

/-! ## The computing steps on them -/

theorem st_dot0 (e : Bool) (j : ℕ) (h : j < 2) :
    iprop(owns (c : Thread nD τ) (xcM e) fullShare (xch m ρ c e c) ∗ Wm m ρ c ∗ SA c e j h)
      ⊢ WP c (dot0 e j h) iprop(owns (c : Thread nD τ) (xcM e) fullShare (xch m ρ c e c) ∗ Wm m ρ c ∗ Sm m ρ c e 0 j h) :=
  wp_dot0 c e j h (xch m ρ c e c) (win m ρ c)

theorem st_dotP (e : Bool) (q : Dev nD) :
    iprop(owns (c : Thread nD τ) (xcM e) fullShare (xch m ρ c e q) ∗ Wm m ρ c ∗ PA c e)
      ⊢ WP c (dotP e) iprop(owns (c : Thread nD τ) (xcM e) fullShare (xch m ρ c e q) ∗ Wm m ρ c ∗ Pq m ρ c e q) :=
  wp_dotP c e (xch m ρ c e q) (win m ρ c)

/-! ## The phases -/

theorem wp_phase0 :
    iprop(Led m ρ K c 0 0 0 ∗ Wm m ρ c ∗ Base m ρ c false ∗ Base m ρ c true
        ∗ SA c false 0 (by decide) ∗ SA c true 0 (by decide) ∗ SA c false 1 (by decide) ∗ SA c true 1 (by decide))
      ⊢ WP c (phase0 c) iprop(Led m ρ K c 4 0 0 ∗ Wm m ρ c ∗ Base m ρ c false ∗ Base m ρ c true) := by
  unfold phase0 Base
  iintro ⟨HL, HW, ⟨X0, C0, P0, Z0⟩, ⟨X1, C1, P1, Z1⟩, S00, S10, S01, S11⟩
  iapply (seq c (wp_loadX m ρ c false c _ _ (off1_row c))) $$ [X0 C0 Z0]
  · isplitl [X0]; · iexact X0
    isplitl [C0]; · iexact C0
    iexact Z0
  iintro F0
  iapply (seq c (wp_loadX m ρ c true c _ _ (off2_row c))) $$ [X1 C1 Z1]
  · isplitl [X1]; · iexact X1
    isplitl [C1]; · iexact C1
    iexact Z1
  iintro F1
  iapply (seq c (wp_waitX m ρ K c false c 0 0 0 _ _ _ _ rfl)) $$ [HL F0]
  · isplitl [HL]; · iexact HL
    iexact F0
  iintro ⟨HL, X0, C0, Z0⟩
  iapply (seq c (st_dot0 m ρ c false 0 _)) $$ [C0 HW S00]
  · isplitl [C0]; · iexact C0
    isplitl [HW]; · iexact HW
    iexact S00
  iintro ⟨C0, HW, S00⟩
  iapply (seq c (wp_sendR m ρ K c false 0 0 _ _ 0 rfl _ (dev3_at c) 0 0 (by decide))) $$ [HL S00]
  · isplitl [HL]; · iexact HL
    iexact S00
  iintro HL
  iapply (seq c (wp_waitX m ρ K c true c 1 0 0 _ _ _ _ rfl)) $$ [HL F1]
  · isplitl [HL]; · iexact HL
    iexact F1
  iintro ⟨HL, X1, C1, Z1⟩
  iapply (seq c (st_dot0 m ρ c true 0 _)) $$ [C1 HW S10]
  · isplitl [C1]; · iexact C1
    isplitl [HW]; · iexact HW
    iexact S10
  iintro ⟨C1, HW, S10⟩
  iapply (seq c (wp_sendR m ρ K c true 0 0 _ _ 1 rfl _ (dev4_at c) 0 0 (by decide))) $$ [HL S10]
  · isplitl [HL]; · iexact HL
    iexact S10
  iintro HL
  iapply (seq c (st_dot0 m ρ c false 1 _)) $$ [C0 HW S01]
  · isplitl [C0]; · iexact C0
    isplitl [HW]; · iexact HW
    iexact S01
  iintro ⟨C0, HW, S01⟩
  iapply (seq c (wp_sendR m ρ K c false 0 1 _ _ 2 rfl _ (dev5_at c) 0 0 (by decide))) $$ [HL S01]
  · isplitl [HL]; · iexact HL
    iexact S01
  iintro HL
  iapply (seq c (st_dot0 m ρ c true 1 _)) $$ [C1 HW S11]
  · isplitl [C1]; · iexact C1
    isplitl [HW]; · iexact HW
    iexact S11
  iintro ⟨C1, HW, S11⟩
  iapply (fin_seq c (wp_sendR m ρ K c true 0 1 _ _ 3 rfl _ (dev6_at c) 0 0 (by decide))) $$ [HL S11]
  · isplitl [HL]; · iexact HL
    iexact S11
  iintro HL
  isplitl [HL]; · iexact HL
  isplitl [HW]; · iexact HW
  isplitl [X0 C0 P0 Z0]
  · isplitl [X0]; · iexact X0
    isplitl [C0]; · iexists _; iexact C0
    isplitl [P0]; · iexact P0
    iexact Z0
  · isplitl [X1]; · iexact X1
    isplitl [C1]; · iexists _; iexact C1
    isplitl [P1]; · iexact P1
    iexact Z1

/-- What a direction keeps while the products of chunk `q` are being added. -/
def BaseP (e : Bool) (q : Dev nD) : sProp 𝕄 := iprop(Xh m ρ c e ∗ CA c e ∗ Pq m ρ c e q ∗ Zl c e)

theorem wp_stepDots (q₁ q₂ : Dev nD) (o₁ o₂ : Fin 2 → ℕ) (h₁) (h₂) (e₁ : o₁ = ![row0 false q₁, 0]) (e₂ : o₂ = ![row0 true q₂, 0]) (ns nr nw : ℕ) :
    iprop(Led m ρ K c ns nr nw ∗ Wm m ρ c ∗ Base m ρ c false ∗ Base m ρ c true)
      ⊢ WP c (stepDots o₁ o₂ h₁ h₂) iprop(Led m ρ K c ns nr nw ∗ Wm m ρ c ∗ BaseP m ρ c false q₁ ∗ BaseP m ρ c true q₂) := by
  unfold stepDots Base BaseP
  iintro ⟨HL, HW, ⟨X0, C0, P0, Z0⟩, ⟨X1, C1, P1, Z1⟩⟩
  iapply (seq c (wp_loadX m ρ c false q₁ _ _ e₁)) $$ [X0 C0 Z0]
  · isplitl [X0]; · iexact X0
    isplitl [C0]; · iexact C0
    iexact Z0
  iintro F0
  iapply (seq c (wp_loadX m ρ c true q₂ _ _ e₂)) $$ [X1 C1 Z1]
  · isplitl [X1]; · iexact X1
    isplitl [C1]; · iexact C1
    iexact Z1
  iintro F1
  iapply (seq c (wp_waitX m ρ K c false q₁ ns nr nw _ _ _ _ rfl)) $$ [HL F0]
  · isplitl [HL]; · iexact HL
    iexact F0
  iintro ⟨HL, X0, C0, Z0⟩
  iapply (seq c (st_dotP m ρ c false q₁)) $$ [C0 HW P0]
  · isplitl [C0]; · iexact C0
    isplitl [HW]; · iexact HW
    iexact P0
  iintro ⟨C0, HW, P0⟩
  iapply (seq c (wp_waitX m ρ K c true q₂ ns nr nw _ _ _ _ rfl)) $$ [HL F1]
  · isplitl [HL]; · iexact HL
    iexact F1
  iintro ⟨HL, X1, C1, Z1⟩
  iapply (fin_seq c (st_dotP m ρ c true q₂)) $$ [C1 HW P1]
  · isplitl [C1]; · iexact C1
    isplitl [HW]; · iexact HW
    iexact P1
  iintro ⟨C1, HW, P1⟩
  isplitl [HL]; · iexact HL
  isplitl [HW]; · iexact HW
  isplitl [X0 C0 P0 Z0]
  · isplitl [X0]; · iexact X0
    isplitl [C0]; · iexists _; iexact C0
    isplitl [P0]; · iexact P0
    iexact Z0
  · isplitl [X1]; · iexact X1
    isplitl [C1]; · iexists _; iexact C1
    isplitl [P1]; · iexact P1
    iexact Z1

theorem wp_phaseR (s : ℕ) (hs : s + 1 < 3) (o₁ o₂ : Fin 2 → ℕ) (h₁) (h₂) (e₁ : o₁ = ![row0 false (ch false c (s + 1)), 0])
    (e₂ : o₂ = ![row0 true (ch true c (s + 1)), 0]) (n₁ n₂ n₃ n₄ : Dev nD) (d₁ : n₁ = ch false c 3) (d₂ : n₂ = ch true c 3) (d₃ : n₃ = ch false c 3)
    (d₄ : n₄ = ch true c 3) :
    iprop(Led m ρ K c (4 * s + 4) (4 * s) (4 * s) ∗ Wm m ρ c ∗ Base m ρ c false ∗ Base m ρ c true)
      ⊢ WP c (phaseR s hs o₁ o₂ h₁ h₂ n₁ n₂ n₃ n₄)
        iprop(Led m ρ K c (4 * (s + 1) + 4) (4 * (s + 1)) (4 * (s + 1)) ∗ Wm m ρ c ∗ Base m ρ c false ∗ Base m ρ c true ∗ Slots c s (by omega)) := by
  unfold phaseR
  iintro ⟨HL, HW, B0, B1⟩
  iapply (seq c (wp_stepDots m ρ K c _ _ _ _ _ _ e₁ e₂ (4 * s + 4) (4 * s) (4 * s))) $$ [HL HW B0 B1]
  · isplitl [HL]; · iexact HL
    isplitl [HW]; · iexact HW
    isplitl [B0]; · iexact B0
    iexact B1
  iintro ⟨HL, HW, B0, B1⟩
  unfold BaseP
  icases B0 with ⟨X0, C0, P0, Z0⟩
  icases B1 with ⟨X1, C1, P1, Z1⟩
  iapply (seq c (wp_recvAdd m ρ K c false s 0 _ _ (4 * s) rfl (4 * s + 4) (by omega) (by omega))) $$ [HL P0]
  · isplitl [HL]; · iexact HL
    iexact P0
  iintro ⟨HL, P0, R00, S00⟩
  iapply (seq c (wp_recvAdd m ρ K c true s 0 _ _ (4 * s + 1) rfl (4 * s + 4) (by omega) (by omega))) $$ [HL P1]
  · isplitl [HL]; · iexact HL
    iexact P1
  iintro ⟨HL, P1, R10, S10⟩
  iapply (seq c (wp_sendR m ρ K c false (s + 1) 0 _ _ (4 * s + 4) (by unfold ix; simp; omega) n₁ d₁ (4 * s + 1 + 1) (4 * s + 1 + 1) (by omega))) $$ [HL S00]
  · isplitl [HL]; · iexact HL
    iexact S00
  iintro HL
  iapply (seq c (wp_sendR m ρ K c true (s + 1) 0 _ _ (4 * s + 4 + 1) (by unfold ix; simp; omega) n₂ d₂ (4 * s + 1 + 1) (4 * s + 1 + 1) (by omega))) $$ [HL S10]
  · isplitl [HL]; · iexact HL
    iexact S10
  iintro HL
  iapply (seq c (wp_recvAdd m ρ K c false s 1 _ _ (4 * s + 1 + 1) rfl (4 * s + 4 + 1 + 1) (by omega) (by omega))) $$ [HL P0]
  · isplitl [HL]; · iexact HL
    iexact P0
  iintro ⟨HL, P0, R01, S01⟩
  iapply (seq c (wp_recvAdd m ρ K c true s 1 _ _ (4 * s + 1 + 1 + 1) rfl (4 * s + 4 + 1 + 1) (by omega) (by omega))) $$ [HL P1]
  · isplitl [HL]; · iexact HL
    iexact P1
  iintro ⟨HL, P1, R11, S11⟩
  iapply (seq c (wp_sendR m ρ K c false (s + 1) 1 _ _ (4 * s + 4 + 1 + 1) (by unfold ix; simp; omega) n₃ d₃ (4 * s + 1 + 1 + 1 + 1) (4 * s + 1 + 1 + 1 + 1) (by omega))) $$ [HL S01]
  · isplitl [HL]; · iexact HL
    iexact S01
  iintro HL
  iapply (fin_seq c (wp_sendR m ρ K c true (s + 1) 1 _ _ (4 * s + 4 + 1 + 1 + 1) (by unfold ix; simp; omega) n₄ d₄ (4 * s + 1 + 1 + 1 + 1) (4 * s + 1 + 1 + 1 + 1) (by omega))) $$ [HL S11]
  · isplitl [HL]; · iexact HL
    iexact S11
  iintro HL
  isplitl [HL]; · iexact HL
  isplitl [HW]; · iexact HW
  unfold Base
  isplitl [X0 C0 P0 Z0]
  · isplitl [X0]; · iexact X0
    isplitl [C0]; · iexact C0
    isplitl [P0]; · iexists _; iexact P0
    iexact Z0
  isplitl [X1 C1 P1 Z1]
  · isplitl [X1]; · iexact X1
    isplitl [C1]; · iexact C1
    isplitl [P1]; · iexists _; iexact P1
    iexact Z1
  unfold Slots
  isplitl [R00]; · iexact R00
  isplitl [R10]; · iexact R10
  isplitl [R01]; · iexact R01
  iexact R11

/-- A finished half chunk of the running sum, split for the send and the store. -/
theorem halves (e : Bool) (j : ℕ) (h : j < 2) :
    owns (c : Thread nD τ) (sV e j h) fullShare (acc m ρ e j h (2 + 1) c)
      ⊢ iprop(owns (c : Thread nD τ) (sV e j h) fullShare.left (acc m ρ e j h 3 c) ∗ ShR m ρ c e j h) :=
  (owns_halves (c : Thread nD τ) (sV e j h) fullShare _).1

theorem wp_phaseL :
    iprop(Led m ρ K c 12 8 8 ∗ Wm m ρ c ∗ Base m ρ c false ∗ Base m ρ c true)
      ⊢ WP c (phaseL c) iprop(Led m ρ K c 16 12 12 ∗ Wm m ρ c ∗ Base m ρ c false ∗ Base m ρ c true ∗ Slots c 2 (by decide)
        ∗ ShR m ρ c false 0 (by decide) ∗ ShR m ρ c true 0 (by decide) ∗ ShR m ρ c false 1 (by decide) ∗ ShR m ρ c true 1 (by decide)) := by
  unfold phaseL
  iintro ⟨HL, HW, B0, B1⟩
  iapply (seq c (wp_stepDots m ρ K c _ _ _ _ _ _ (off3_row2 c) (off4_row2 c) 12 8 8)) $$ [HL HW B0 B1]
  · isplitl [HL]; · iexact HL
    isplitl [HW]; · iexact HW
    isplitl [B0]; · iexact B0
    iexact B1
  iintro ⟨HL, HW, B0, B1⟩
  unfold BaseP
  icases B0 with ⟨X0, C0, P0, Z0⟩
  icases B1 with ⟨X1, C1, P1, Z1⟩
  iapply (seq c (wp_recvAdd m ρ K c false 2 0 _ _ (8) rfl (12) (by decide) (by decide))) $$ [HL P0]
  · isplitl [HL]; · iexact HL
    iexact P0
  iintro ⟨HL, P0, R00, S00⟩
  ihave S00 := (halves m ρ c false 0 _) $$ S00
  icases S00 with ⟨L00, S00⟩
  iapply (seq c (wp_recvAdd m ρ K c true 2 0 _ _ (9) rfl (12) (by decide) (by decide))) $$ [HL P1]
  · isplitl [HL]; · iexact HL
    iexact P1
  iintro ⟨HL, P1, R10, S10⟩
  ihave S10 := (halves m ρ c true 0 _) $$ S10
  icases S10 with ⟨L10, S10⟩
  iapply (seq c (wp_sendG m ρ K c false 0 _ 12 rfl _ _ (off5_row0 c) _ (dev15_at c) 10 10 (by decide))) $$ [HL L00]
  · isplitl [HL]; · iexact HL
    iexact L00
  iintro HL
  iapply (seq c (wp_sendG m ρ K c true 0 _ 13 rfl _ _ (off6_row0 c) _ (dev16_at c) 10 10 (by decide))) $$ [HL L10]
  · isplitl [HL]; · iexact HL
    iexact L10
  iintro HL
  iapply (seq c (wp_recvAdd m ρ K c false 2 1 _ _ (10) rfl (14) (by decide) (by decide))) $$ [HL P0]
  · isplitl [HL]; · iexact HL
    iexact P0
  iintro ⟨HL, P0, R01, S01⟩
  ihave S01 := (halves m ρ c false 1 _) $$ S01
  icases S01 with ⟨L01, S01⟩
  iapply (seq c (wp_recvAdd m ρ K c true 2 1 _ _ (11) rfl (14) (by decide) (by decide))) $$ [HL P1]
  · isplitl [HL]; · iexact HL
    iexact P1
  iintro ⟨HL, P1, R11, S11⟩
  ihave S11 := (halves m ρ c true 1 _) $$ S11
  icases S11 with ⟨L11, S11⟩
  iapply (seq c (wp_sendG m ρ K c false 1 _ 14 rfl _ _ (off5_row1 c) _ (dev17_at c) 12 12 (by decide))) $$ [HL L01]
  · isplitl [HL]; · iexact HL
    iexact L01
  iintro HL
  iapply (fin_seq c (wp_sendG m ρ K c true 1 _ 15 rfl _ _ (off6_row1 c) _ (dev18_at c) 12 12 (by decide))) $$ [HL L11]
  · isplitl [HL]; · iexact HL
    iexact L11
  iintro HL
  isplitl [HL]; · iexact HL
  isplitl [HW]; · iexact HW
  unfold Base
  isplitl [X0 C0 P0 Z0]
  · isplitl [X0]; · iexact X0
    isplitl [C0]; · iexact C0
    isplitl [P0]; · iexists _; iexact P0
    iexact Z0
  isplitl [X1 C1 P1 Z1]
  · isplitl [X1]; · iexact X1
    isplitl [C1]; · iexact C1
    isplitl [P1]; · iexists _; iexact P1
    iexact Z1
  isplitl [R00 R10 R01 R11]
  · unfold Slots
    isplitl [R00]; · iexact R00
    isplitl [R10]; · iexact R10
    isplitl [R01]; · iexact R01
    iexact R11
  isplitl [S00]; · iexact S00
  isplitl [S10]; · iexact S10
  isplitl [S01]; · iexact S01
  iexact S11

theorem wp_phaseS :
    iprop(Zl c false ∗ Zl c true
        ∗ (ShR m ρ c false 0 (by decide) ∗ ShR m ρ c true 0 (by decide) ∗ ShR m ρ c false 1 (by decide) ∗ ShR m ρ c true 1 (by decide))
        ∗ OA c false 0 (by decide) ∗ OA c true 0 (by decide) ∗ OA c false 1 (by decide) ∗ OA c true 1 (by decide))
      ⊢ WP c (phaseS c) iprop(St m ρ c false 2 0 ∗ St m ρ c true 2 0) := by
  unfold phaseS
  iintro ⟨Z0, Z1, ⟨S00, S10, S01, S11⟩, O00, O10, O01, O11⟩
  imod (batch_alloc' EC (c : Thread nD τ) () N (stD m ρ c false)) $$ Z0 with B0
  imod (batch_alloc' EC (c : Thread nD τ) () N (stD m ρ c true)) $$ Z1 with B1
  iapply (seq c (wp_storeO m ρ c false 0 _ _ _ (off5_row0 c))) $$ [B0 S00 O00]
  · isplitl [B0]; · iexact B0
    isplitl [S00]; · iexact S00
    iexact O00
  iintro B0
  iapply (seq c (wp_storeO m ρ c true 0 _ _ _ (off6_row0 c))) $$ [B1 S10 O10]
  · isplitl [B1]; · iexact B1
    isplitl [S10]; · iexact S10
    iexact O10
  iintro B1
  iapply (seq c (wp_storeO m ρ c false 1 _ _ _ (off5_row1 c))) $$ [B0 S01 O01]
  · isplitl [B0]; · iexact B0
    isplitl [S01]; · iexact S01
    iexact O01
  iintro B0
  iapply (fin_seq c (wp_storeO m ρ c true 1 _ _ _ (off6_row1 c))) $$ [B1 S11 O11]
  · isplitl [B1]; · iexact B1
    isplitl [S11]; · iexact S11
    iexact O11
  iintro B1
  isplitl [B0]; · iexact B0
  iexact B1

theorem wp_phaseG :
    Led m ρ K c 16 12 12
      ⊢ WP c (phaseG c) iprop(Led m ρ K c 24 24 12
        ∗ Cf m ρ c false 2 0 (by decide) ∗ Cf m ρ c true 2 0 (by decide) ∗ Cf m ρ c false 2 1 (by decide) ∗ Cf m ρ c true 2 1 (by decide)) := by
  unfold phaseG
  iintro HL
  iapply (seq c (wp_recvC m ρ K c false 0 0 (by decide) (by decide) 12 rfl 16 12 (by decide) _ (rcvI_of 12 6 false (by decide) (by decide) (by decide)) _ _ _ _ (oL_credit _ _))) $$ [HL]
  · iexact HL
  iintro ⟨HL, C00⟩
  iapply (seq c (wp_recvC m ρ K c true 0 0 (by decide) (by decide) 13 rfl 16 12 (by decide) _ (rcvI_of 13 6 true (by decide) (by decide) (by decide)) _ _ _ _ (oL_credit _ _))) $$ [HL]
  · iexact HL
  iintro ⟨HL, C10⟩
  iapply (seq c (wp_sendF m ρ K c false 0 0 (by decide) (by decide) 16 rfl 8 _ (by decide) _ _ (off7_row00 c) _ (dev19_at c) 14 12 (by decide))) $$ [HL C00]
  · isplitl [HL]; · iexact HL
    iexact C00
  iintro HL
  iapply (seq c (wp_sendF m ρ K c true 0 0 (by decide) (by decide) 17 rfl 8 _ (by decide) _ _ (off8_row00 c) _ (dev20_at c) 14 12 (by decide))) $$ [HL C10]
  · isplitl [HL]; · iexact HL
    iexact C10
  iintro HL
  iapply (seq c (wp_recvC m ρ K c false 0 1 (by decide) (by decide) 14 rfl 18 12 (by decide) _ (rcvI_of 14 7 false (by decide) (by decide) (by decide)) _ _ _ _ (oL_credit _ _))) $$ [HL]
  · iexact HL
  iintro ⟨HL, C01⟩
  iapply (seq c (wp_recvC m ρ K c true 0 1 (by decide) (by decide) 15 rfl 18 12 (by decide) _ (rcvI_of 15 7 true (by decide) (by decide) (by decide)) _ _ _ _ (oL_credit _ _))) $$ [HL]
  · iexact HL
  iintro ⟨HL, C11⟩
  iapply (seq c (wp_sendF m ρ K c false 0 1 (by decide) (by decide) 18 rfl 9 _ (by decide) _ _ (off7_row01 c) _ (dev21_at c) 16 12 (by decide))) $$ [HL C01]
  · isplitl [HL]; · iexact HL
    iexact C01
  iintro HL
  iapply (seq c (wp_sendF m ρ K c true 0 1 (by decide) (by decide) 19 rfl 9 _ (by decide) _ _ (off8_row01 c) _ (dev22_at c) 16 12 (by decide))) $$ [HL C11]
  · isplitl [HL]; · iexact HL
    iexact C11
  iintro HL
  iapply (seq c (wp_recvC m ρ K c false 1 0 (by decide) (by decide) 16 rfl 20 12 (by decide) _ (rcvI_of 16 8 false (by decide) (by decide) (by decide)) _ _ _ _ (oL_credit _ _))) $$ [HL]
  · iexact HL
  iintro ⟨HL, C00⟩
  iapply (seq c (wp_recvC m ρ K c true 1 0 (by decide) (by decide) 17 rfl 20 12 (by decide) _ (rcvI_of 17 8 true (by decide) (by decide) (by decide)) _ _ _ _ (oL_credit _ _))) $$ [HL]
  · iexact HL
  iintro ⟨HL, C10⟩
  iapply (seq c (wp_sendF m ρ K c false 1 0 (by decide) (by decide) 20 rfl 10 _ (by decide) _ _ (off7_row10 c) _ (dev23_at c) 18 12 (by decide))) $$ [HL C00]
  · isplitl [HL]; · iexact HL
    iexact C00
  iintro HL
  iapply (seq c (wp_sendF m ρ K c true 1 0 (by decide) (by decide) 21 rfl 10 _ (by decide) _ _ (off8_row10 c) _ (dev24_at c) 18 12 (by decide))) $$ [HL C10]
  · isplitl [HL]; · iexact HL
    iexact C10
  iintro HL
  iapply (seq c (wp_recvC m ρ K c false 1 1 (by decide) (by decide) 18 rfl 22 12 (by decide) _ (rcvI_of 18 9 false (by decide) (by decide) (by decide)) _ _ _ _ (oL_credit _ _))) $$ [HL]
  · iexact HL
  iintro ⟨HL, C01⟩
  iapply (seq c (wp_recvC m ρ K c true 1 1 (by decide) (by decide) 19 rfl 22 12 (by decide) _ (rcvI_of 19 9 true (by decide) (by decide) (by decide)) _ _ _ _ (oL_credit _ _))) $$ [HL]
  · iexact HL
  iintro ⟨HL, C11⟩
  iapply (seq c (wp_sendF m ρ K c false 1 1 (by decide) (by decide) 22 rfl 11 _ (by decide) _ _ (off7_row11 c) _ (dev25_at c) 20 12 (by decide))) $$ [HL C01]
  · isplitl [HL]; · iexact HL
    iexact C01
  iintro HL
  iapply (seq c (wp_sendF m ρ K c true 1 1 (by decide) (by decide) 23 rfl 11 _ (by decide) _ _ (off8_row11 c) _ (dev26_at c) 20 12 (by decide))) $$ [HL C11]
  · isplitl [HL]; · iexact HL
    iexact C11
  iintro HL
  iapply (seq c (wp_recvC m ρ K c false 2 0 (by decide) (by decide) 20 rfl 24 12 (by decide) _ (rcvI_of 20 10 false (by decide) (by decide) (by decide)) _ _ _ _ (oL_credit _ _))) $$ [HL]
  · iexact HL
  iintro ⟨HL, D00⟩
  iapply (seq c (wp_recvC m ρ K c true 2 0 (by decide) (by decide) 21 rfl 24 12 (by decide) _ (rcvI_of 21 10 true (by decide) (by decide) (by decide)) _ _ _ _ (oL_credit _ _))) $$ [HL]
  · iexact HL
  iintro ⟨HL, D10⟩
  iapply (seq c (wp_recvC m ρ K c false 2 1 (by decide) (by decide) 22 rfl 24 12 (by decide) _ (rcvI_of 22 11 false (by decide) (by decide) (by decide)) _ _ _ _ (oL_credit _ _))) $$ [HL]
  · iexact HL
  iintro ⟨HL, D01⟩
  iapply (fin_seq c (wp_recvC m ρ K c true 2 1 (by decide) (by decide) 23 rfl 24 12 (by decide) _ (rcvI_of 23 11 true (by decide) (by decide) (by decide)) _ _ _ _ (oL_credit _ _))) $$ [HL]
  · iexact HL
  iintro ⟨HL, D11⟩
  isplitl [HL]; · iexact HL
  isplitl [D00]; · iexact D00
  isplitl [D10]; · iexact D10
  isplitl [D01]; · iexact D01
  iexact D11

theorem wp_phaseW :
    iprop(Led m ρ K c 24 24 12 ∗ St m ρ c false 2 0 ∗ St m ρ c true 2 0)
      ⊢ WP c (phaseW c) iprop(Led m ρ K c 24 24 24
        ∗ (ShL m ρ c false 0 (by decide) ∗ ShL m ρ c true 0 (by decide) ∗ ShL m ρ c false 1 (by decide) ∗ ShL m ρ c true 1 (by decide))
        ∗ (Cf m ρ c false 0 0 (by decide) ∗ Cf m ρ c true 0 0 (by decide) ∗ Cf m ρ c false 0 1 (by decide) ∗ Cf m ρ c true 0 1 (by decide))
        ∗ (Cf m ρ c false 1 0 (by decide) ∗ Cf m ρ c true 1 0 (by decide) ∗ Cf m ρ c false 1 1 (by decide) ∗ Cf m ρ c true 1 1 (by decide))
        ∗ (stD m ρ c false 0 ∗ stD m ρ c false 1 ∗ Zl c false) ∗ (stD m ρ c true 0 ∗ stD m ρ c true 1 ∗ Zl c true)) := by
  unfold phaseW
  iintro ⟨HL, B0, B1⟩
  iapply (seq c (wp_sentS m ρ K c false 0 (by decide) 12 rfl 24 24 (by decide) (by decide) _ (sndI_of 12 6 false (by decide) (by decide) (by decide)) _ _ _ _ (sV_credit _ _ _))) $$ [HL]
  · iexact HL
  iintro ⟨HL, S00⟩
  iapply (seq c (wp_sentS m ρ K c true 0 (by decide) 13 rfl 24 24 (by decide) (by decide) _ (sndI_of 13 6 true (by decide) (by decide) (by decide)) _ _ _ _ (sV_credit _ _ _))) $$ [HL]
  · iexact HL
  iintro ⟨HL, S10⟩
  iapply (seq c (wp_sentS m ρ K c false 1 (by decide) 14 rfl 24 24 (by decide) (by decide) _ (sndI_of 14 7 false (by decide) (by decide) (by decide)) _ _ _ _ (sV_credit _ _ _))) $$ [HL]
  · iexact HL
  iintro ⟨HL, S01⟩
  iapply (seq c (wp_sentS m ρ K c true 1 (by decide) 15 rfl 24 24 (by decide) (by decide) _ (sndI_of 15 7 true (by decide) (by decide) (by decide)) _ _ _ _ (sV_credit _ _ _))) $$ [HL]
  · iexact HL
  iintro ⟨HL, S11⟩
  iapply (seq c (wp_sentC m ρ K c false 0 0 (by decide) 16 rfl 24 24 (by decide) (by decide) _ (sndI_of 16 8 false (by decide) (by decide) (by decide)) _ _ _ _ (oL_credit _ _))) $$ [HL]
  · iexact HL
  iintro ⟨HL, C000⟩
  iapply (seq c (wp_sentC m ρ K c true 0 0 (by decide) 17 rfl 24 24 (by decide) (by decide) _ (sndI_of 17 8 true (by decide) (by decide) (by decide)) _ _ _ _ (oL_credit _ _))) $$ [HL]
  · iexact HL
  iintro ⟨HL, C010⟩
  iapply (seq c (wp_sentC m ρ K c false 0 1 (by decide) 18 rfl 24 24 (by decide) (by decide) _ (sndI_of 18 9 false (by decide) (by decide) (by decide)) _ _ _ _ (oL_credit _ _))) $$ [HL]
  · iexact HL
  iintro ⟨HL, C001⟩
  iapply (seq c (wp_sentC m ρ K c true 0 1 (by decide) 19 rfl 24 24 (by decide) (by decide) _ (sndI_of 19 9 true (by decide) (by decide) (by decide)) _ _ _ _ (oL_credit _ _))) $$ [HL]
  · iexact HL
  iintro ⟨HL, C011⟩
  iapply (seq c (wp_sentC m ρ K c false 1 0 (by decide) 20 rfl 24 24 (by decide) (by decide) _ (sndI_of 20 10 false (by decide) (by decide) (by decide)) _ _ _ _ (oL_credit _ _))) $$ [HL]
  · iexact HL
  iintro ⟨HL, C100⟩
  iapply (seq c (wp_sentC m ρ K c true 1 0 (by decide) 21 rfl 24 24 (by decide) (by decide) _ (sndI_of 21 10 true (by decide) (by decide) (by decide)) _ _ _ _ (oL_credit _ _))) $$ [HL]
  · iexact HL
  iintro ⟨HL, C110⟩
  iapply (seq c (wp_sentC m ρ K c false 1 1 (by decide) 22 rfl 24 24 (by decide) (by decide) _ (sndI_of 22 11 false (by decide) (by decide) (by decide)) _ _ _ _ (oL_credit _ _))) $$ [HL]
  · iexact HL
  iintro ⟨HL, C101⟩
  iapply (seq c (wp_sentC m ρ K c true 1 1 (by decide) 23 rfl 24 24 (by decide) (by decide) _ (sndI_of 23 11 true (by decide) (by decide) (by decide)) _ _ _ _ (oL_credit _ _))) $$ [HL]
  · iexact HL
  iintro ⟨HL, C111⟩
  iapply (seq c (wp_stored0 m ρ K c false 24 24 24 _ _ _ _ (oL_credit _ _))) $$ [HL B0]
  · isplitl [HL]; · iexact HL
    iexact B0
  iintro ⟨HL, B0⟩
  iapply (seq c (wp_stored0 m ρ K c true 24 24 24 _ _ _ _ (oL_credit _ _))) $$ [HL B1]
  · isplitl [HL]; · iexact HL
    iexact B1
  iintro ⟨HL, B1⟩
  iapply (seq c (wp_stored1 m ρ K c false 24 24 24 _ _ _ _ (oL_credit _ _))) $$ [HL B0]
  · isplitl [HL]; · iexact HL
    iexact B0
  iintro ⟨HL, T00, T01, Z0⟩
  iapply (fin_seq c (wp_stored1 m ρ K c true 24 24 24 _ _ _ _ (oL_credit _ _))) $$ [HL B1]
  · isplitl [HL]; · iexact HL
    iexact B1
  iintro ⟨HL, T10, T11, Z1⟩
  isplitl [HL]; · iexact HL
  isplitl [S00 S10 S01 S11]
  · isplitl [S00]; · iexact S00
    isplitl [S10]; · iexact S10
    isplitl [S01]; · iexact S01
    iexact S11
  isplitl [C000 C010 C001 C011]
  · isplitl [C000]; · iexact C000
    isplitl [C010]; · iexact C010
    isplitl [C001]; · iexact C001
    iexact C011
  isplitl [C100 C110 C101 C111]
  · isplitl [C100]; · iexact C100
    isplitl [C110]; · iexact C110
    isplitl [C101]; · iexact C101
    iexact C111
  isplitl [T00 T01 Z0]
  · isplitl [T00]; · iexact T00
    isplitl [T01]; · iexact T01
    iexact Z0
  isplitl [T10]; · iexact T10
  isplitl [T11]; · iexact T11
  iexact Z1

end Cert.KernelIdeal.Proofs

end
-- ==== Proof.Ideal.Pieces.lean ====
/-
The buffers as the parts the protocol hands around: the two halves of the running sums, the landing slots, the sixteen
parts of the result.
-/
module

public import proofs.«01_k».proof.Proof.Ideal.Phases
public import Idealize.ShloMosaic.Lib.MemrefSat

@[expose] public section

noncomputable section

namespace Cert.KernelIdeal.Proofs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- A list's family, its head set apart. -/
theorem sepL_cons {I : Type} (i j : I) (l : List I) (Φ : I → sProp 𝕄) : bigSepL (i :: j :: l) Φ = iprop(Φ i ∗ bigSepL (j :: l) Φ) := rfl

/-! ## Contents put together from disjoint parts -/

/-- Contents given on disjoint rectangles are parts of one. -/
theorem glue {sh : Shape} {α : Type} (hα : Nonempty α) {T : Type} (r : T → Rect sh) (hd : ∀ t t', t ≠ t' → Disjoint (r t).set (r t').set)
    (Y : (t : T) → (r t).shape.Idx → α) : ∃ X : sh.Idx → α, ∀ t j, X ((r t).emb j) = Y t j := by
  classical
  refine ⟨fun i => if h : ∃ p : (t : T) × (r t).shape.Idx, (r p.1).emb p.2 = i then Y h.choose.1 h.choose.2 else Classical.arbitrary α, fun t j => ?_⟩
  have h : ∃ p : (t : T) × (r t).shape.Idx, (r p.1).emb p.2 = (r t).emb j := ⟨⟨t, j⟩, rfl⟩
  show dite _ _ _ = _
  rw [dif_pos h]
  have hs := h.choose_spec
  generalize h.choose = p at hs
  obtain ⟨t', j'⟩ := p
  have ht : t' = t := by
    by_contra hn
    exact Finset.disjoint_left.mp (hd t' t hn) ((r t').idx_mem j') (by
      have : (r t').idx j' = (r t).idx j := hs
      rw [this]; exact (r t).idx_mem j)
  subst ht
  obtain rfl : j' = j := (r t').emb.injective hs
  rfl

/-- Parts at any contents are the whole at some contents. -/
theorem owns_any_join {sp : Space} {sh : Shape} {e : EltTy} (M : Memref sig .tc sp sh e) (q : PosShare TreeShare) {T : Type} [Fintype T] [DecidableEq T]
    (r : T → Rect sh) (hr : ∀ t a, (r t).stride a = 1) (hd : ∀ t t', t ≠ t' → Disjoint (r t).set (r t').set)
    (hcov : (Finset.univ : Finset T).biUnion (fun t => (r t).set) = Finset.univ) :
    bigSep Finset.univ (fun t => iprop(∃ Y, owns (c : Thread nD τ) (M.slice (r t) (hr t)) q Y))
      ⊢ (iprop(∃ X, owns (c : Thread nD τ) M q X) : sProp 𝕄) := by
  refine BIBase.Entails.trans (bigSep_exists_pi Finset.univ (fun t Y => owns (c : Thread nD τ) (M.slice (r t) (hr t)) q Y)) ?_
  iintro ⟨%Y, H⟩
  obtain ⟨X, hX⟩ := glue inferInstance r hd Y
  iexists X
  iapply (owns_of_rects (c : Thread nD τ) M q r hr hd hcov X)
  have e : (fun t => (owns (c : Thread nD τ) (M.slice (r t) (hr t)) q (fun j => X ((r t).emb j)) : sProp 𝕄))
      = fun t => owns (c : Thread nD τ) (M.slice (r t) (hr t)) q (Y t) := by
    funext t; rw [show (fun j => X ((r t).emb j)) = Y t from funext fun j => hX t j]
  rw [e]
  iexact H

/-- The whole at some contents is its parts at some contents. -/
theorem owns_any_split {sp : Space} {sh : Shape} {e : EltTy} (M : Memref sig .tc sp sh e) (q : PosShare TreeShare) {T : Type} [Fintype T] [DecidableEq T]
    (r : T → Rect sh) (hr : ∀ t a, (r t).stride a = 1) (hd : ∀ t t', t ≠ t' → Disjoint (r t).set (r t').set)
    (hcov : (Finset.univ : Finset T).biUnion (fun t => (r t).set) = Finset.univ) :
    (iprop(∃ X, owns (c : Thread nD τ) M q X) : sProp 𝕄)
      ⊢ bigSep Finset.univ (fun t => iprop(∃ Y, owns (c : Thread nD τ) (M.slice (r t) (hr t)) q Y)) := by
  iintro ⟨%X, H⟩
  ihave H := (owns_rects (c : Thread nD τ) M q r hr hd hcov X) $$ H
  have h : ∀ t ∈ (Finset.univ : Finset T), (owns (c : Thread nD τ) (M.slice (r t) (hr t)) q (fun j => X ((r t).emb j)) : sProp 𝕄)
      ⊢ iprop(∃ Y, owns (c : Thread nD τ) (M.slice (r t) (hr t)) q Y) := fun t _ => by iintro H; iexists _; iexact H
  iapply (show bigSep Finset.univ (fun t => (owns (c : Thread nD τ) (M.slice (r t) (hr t)) q (fun j => X ((r t).emb j)) : sProp 𝕄))
      ⊢ bigSep Finset.univ (fun t => iprop(∃ Y, owns (c : Thread nD τ) (M.slice (r t) (hr t)) q Y)) from bigSep_mono h)
  iexact H

/-! ## The running sums' two halves, the landing slots -/

/-- The halves of the running sums. -/
abbrev rectS (t : Fin 2) : Rect S2x256x2048 := Rect.unit (s := S2x256x2048) ![t.val, 0, 0] S1x256x2048.size (inb_s t.isLt)
theorem rectS_disj : ∀ t t', t ≠ t' → Disjoint (rectS t).set (rectS t').set := fun t t' h =>
  Rect.unit_disjoint (s := S2x256x2048) 0 (by have := Fin.val_ne_of_ne h; show t.val + 1 ≤ t'.val ∨ t'.val + 1 ≤ t.val; omega)
theorem rectS_cov : (Finset.univ : Finset (Fin 2)).biUnion (fun t => (rectS t).set) = Finset.univ := by
  ext i
  simp only [Finset.mem_biUnion, Finset.mem_univ, true_and, iff_true]
  refine ⟨⟨(i 0).val, (i 0).isLt⟩, (Rect.mem_set_unit (s := S2x256x2048)).mpr fun a => ?_⟩
  fin_cases a
  · exact ⟨Nat.le_refl _, Nat.lt_succ_self _⟩
  · exact ⟨Nat.zero_le _, by have := (i 1).isLt; show (i 1).val < 0 + 256; rw [Nat.zero_add]; exact this⟩
  · exact ⟨Nat.zero_le _, by have := (i 2).isLt; show (i 2).val < 0 + 2048; rw [Nat.zero_add]; exact this⟩

/-- The landing slots. -/
abbrev rectR (t : Fin 3 × Fin 2) : Rect S3x2x256x2048 := Rect.unit (s := S3x2x256x2048) ![t.1.val, t.2.val, 0, 0] S1x1x256x2048.size (inb_r t.1.isLt t.2.isLt)
theorem rectR_disj : ∀ t t', t ≠ t' → Disjoint (rectR t).set (rectR t').set := fun t t' h => by
  by_cases h0 : t.1 = t'.1
  · have h1 : t.2 ≠ t'.2 := fun h1 => h (Prod.ext h0 h1)
    exact Rect.unit_disjoint (s := S3x2x256x2048) 1 (by have := Fin.val_ne_of_ne h1; show t.2.val + 1 ≤ t'.2.val ∨ t'.2.val + 1 ≤ t.2.val; omega)
  · exact Rect.unit_disjoint (s := S3x2x256x2048) 0 (by have := Fin.val_ne_of_ne h0; show t.1.val + 1 ≤ t'.1.val ∨ t'.1.val + 1 ≤ t.1.val; omega)
theorem rectR_cov : (Finset.univ : Finset (Fin 3 × Fin 2)).biUnion (fun t => (rectR t).set) = Finset.univ := by
  ext i
  simp only [Finset.mem_biUnion, Finset.mem_univ, true_and, iff_true]
  refine ⟨⟨⟨(i 0).val, (i 0).isLt⟩, ⟨(i 1).val, (i 1).isLt⟩⟩, (Rect.mem_set_unit (s := S3x2x256x2048)).mpr fun a => ?_⟩
  fin_cases a
  · exact ⟨Nat.le_refl _, Nat.lt_succ_self _⟩
  · exact ⟨Nat.le_refl _, Nat.lt_succ_self _⟩
  · exact ⟨Nat.zero_le _, by have := (i 2).isLt; show (i 2).val < 0 + 256; rw [Nat.zero_add]; exact this⟩
  · exact ⟨Nat.zero_le _, by have := (i 3).isLt; show (i 3).val < 0 + 2048; rw [Nat.zero_add]; exact this⟩

/-- A memref whose unit axes are dropped, at any contents. -/
theorem any_squeeze {sp : Space} {s s' : Shape} {e : EltTy} (M : Memref sig .tc sp s e) (h : s.Squeezes s') (hc : s'.ShapeCasts s) (q : PosShare TreeShare) :
    (iprop(∃ Y, owns (c : Thread nD τ) (M.squeeze s' h) q Y) : sProp 𝕄) = iprop(∃ Y, owns (c : Thread nD τ) M q Y) := by
  have h₁ : (iprop(∃ Y, owns (c : Thread nD τ) (M.squeeze s' h) q Y) : sProp 𝕄) ⊢ iprop(∃ Y, owns (c : Thread nD τ) M q Y) := by
    iintro ⟨%Y, H⟩
    ihave H := (Entails.of_eq (owns_squeeze c M h hc q Y)) $$ H
    iexists _; iexact H
  have h₂ : (iprop(∃ Y, owns (c : Thread nD τ) M q Y) : sProp 𝕄) ⊢ iprop(∃ Y, owns (c : Thread nD τ) (M.squeeze s' h) q Y) := by
    iintro ⟨%Y, H⟩
    iexists shapeCast s' Y hc.symm
    iapply (Entails.of_eq (owns_squeeze c M h hc q (shapeCast s' Y hc.symm)).symm)
    rw [show shapeCast s (shapeCast s' Y hc.symm) hc = Y from shapeCast_shapeCast _ _ _]
    iexact H
  exact BI.equiv_iff.mp ⟨h₁, h₂⟩

/-- The two running sums of a direction, and their buffer. -/
theorem sum_split (e : Bool) : (iprop(∃ Y, owns (c : Thread nD τ) (sM e) fullShare Y) : sProp 𝕄) ⊢ iprop(SA c e 0 (by decide) ∗ SA c e 1 (by decide)) := by
  refine (owns_any_split c (sM e) fullShare rectS (fun _ _ => rfl) rectS_disj rectS_cov).trans ?_
  rw [bigSep_univ_eq_bigSepL [(0 : Fin 2), 1] (by decide) (by decide), bigSepL_cons_cons, bigSepL_singleton]
  exact Entails.of_eq (congrArg₂ BI.sep (any_squeeze c (sL e 0 _) squeezes_S1x256x2048_S256x2048 shapeCasts_S256x2048_S1x256x2048 fullShare).symm
    (any_squeeze c (sL e 1 _) squeezes_S1x256x2048_S256x2048 shapeCasts_S256x2048_S1x256x2048 fullShare).symm)
theorem sum_join (e : Bool) : (iprop(SA c e 0 (by decide) ∗ SA c e 1 (by decide)) : sProp 𝕄) ⊢ iprop(∃ Y, owns (c : Thread nD τ) (sM e) fullShare Y) := by
  refine BIBase.Entails.trans ?_ (owns_any_join c (sM e) fullShare rectS (fun _ _ => rfl) rectS_disj rectS_cov)
  rw [bigSep_univ_eq_bigSepL [(0 : Fin 2), 1] (by decide) (by decide), bigSepL_cons_cons, bigSepL_singleton]
  exact Entails.of_eq (congrArg₂ BI.sep (any_squeeze c (sL e 0 _) squeezes_S1x256x2048_S256x2048 shapeCasts_S256x2048_S1x256x2048 fullShare)
    (any_squeeze c (sL e 1 _) squeezes_S1x256x2048_S256x2048 shapeCasts_S256x2048_S1x256x2048 fullShare))

theorem any_rV (e : Bool) (s j : ℕ) (hs : s < 3) (h : j < 2) :
    RA c e s j hs h = (iprop(∃ Y, owns (c : Thread nD τ) (rL e s j hs h) fullShare Y) : sProp 𝕄) :=
  any_squeeze c (rL e s j hs h) squeezes_S1x1x256x2048_S256x2048 shapeCasts_S1x1x256x2048_S256x2048.symm fullShare

/-- A direction's six landing slots. -/
def Six (e : Bool) : sProp 𝕄 := iprop(RA c e 0 0 (by decide) (by decide) ∗ RA c e 0 1 (by decide) (by decide) ∗ RA c e 1 0 (by decide) (by decide)
  ∗ RA c e 1 1 (by decide) (by decide) ∗ RA c e 2 0 (by decide) (by decide) ∗ RA c e 2 1 (by decide) (by decide))

theorem six_eq (e : Bool) : (Six c e : sProp 𝕄) = bigSep Finset.univ (fun t : Fin 3 × Fin 2 => iprop(∃ Y, owns (c : Thread nD τ) ((rM e).slice (rectR t) (fun _ => rfl)) fullShare Y)) := by
  rw [bigSep_univ_eq_bigSepL [((0 : Fin 3), (0 : Fin 2)), (0, 1), (1, 0), (1, 1), (2, 0), (2, 1)] (by decide) (by decide)]
  simp only [bigSepL_cons_cons, bigSepL_singleton]
  unfold Six
  simp only [any_rV]
  rfl

theorem slots_split (e : Bool) : (iprop(∃ Y, owns (c : Thread nD τ) (rM e) fullShare Y) : sProp 𝕄) ⊢ Six c e := by
  rw [six_eq]; exact owns_any_split c (rM e) fullShare rectR (fun _ _ => rfl) rectR_disj rectR_cov
theorem slots_join (e : Bool) : (Six c e : sProp 𝕄) ⊢ iprop(∃ Y, owns (c : Thread nD τ) (rM e) fullShare Y) := by
  rw [six_eq]; exact owns_any_join c (rM e) fullShare rectR (fun _ _ => rfl) rectR_disj rectR_cov

/-! ## The result's sixteen parts -/

/-- Half `t.2.2` of chunk `t.2.1` of direction `t.1`, as rows of the result. -/
abbrev rectO (t : Bool × Fin 4 × Fin 2) : Rect S4096x2048 :=
  Rect.unit (s := S4096x2048) ![row0 t.1 t.2.1 + 256 * t.2.2.val, 0] S256x2048.size (inb_o t.1 t.2.1 t.2.2.isLt)
theorem rectO_disj : ∀ t t', t ≠ t' → Disjoint (rectO t).set (rectO t').set := by
  rintro ⟨e, q, j⟩ ⟨e', q', j'⟩ h
  refine Rect.unit_disjoint (s := S4096x2048) 0 ?_
  show row0 e q + 256 * j.val + 256 ≤ row0 e' q' + 256 * j'.val ∨ row0 e' q' + 256 * j'.val + 256 ≤ row0 e q + 256 * j.val
  have h3 : e ≠ e' ∨ q.val ≠ q'.val ∨ j.val ≠ j'.val := by
    by_contra hn
    simp only [not_or, not_not] at hn
    exact h (Prod.ext hn.1 (Prod.ext (Fin.ext hn.2.1) (Fin.ext hn.2.2)))
  have := q.isLt; have := q'.isLt; have := j.isLt; have := j'.isLt
  unfold row0
  cases e <;> cases e' <;> simp at h3 ⊢ <;> omega
theorem rectO_cov : (Finset.univ : Finset (Bool × Fin 4 × Fin 2)).biUnion (fun t => (rectO t).set) = Finset.univ := by
  ext i
  simp only [Finset.mem_biUnion, Finset.mem_univ, true_and, iff_true]
  have hi : (i 0).val < 4096 := (i 0).isLt
  refine ⟨⟨decide (2048 ≤ (i 0).val), ⟨(i 0).val % 2048 / 512, by omega⟩, ⟨(i 0).val % 512 / 256, by omega⟩⟩, (Rect.mem_set_unit (s := S4096x2048)).mpr fun a => ?_⟩
  fin_cases a
  · show row0 (decide (2048 ≤ (i 0).val)) ⟨(i 0).val % 2048 / 512, _⟩ + 256 * ((i 0).val % 512 / 256) ≤ (i 0).val
      ∧ (i 0).val < row0 (decide (2048 ≤ (i 0).val)) ⟨(i 0).val % 2048 / 512, _⟩ + 256 * ((i 0).val % 512 / 256) + 256
    unfold row0
    by_cases h : 2048 ≤ (i 0).val
    · simp only [h, decide_true, if_true]; omega
    · simp only [h, decide_false, Bool.false_eq_true, if_false]; omega
  · exact ⟨Nat.zero_le _, by have := (i 1).isLt; show (i 1).val < 0 + 2048; rw [Nat.zero_add]; exact this⟩

theorem f32_nonempty : Nonempty (Elt F .f32) := (inferInstance : ∀ e, Nonempty (Elt F e)) .f32

/-- The result every device ends with. -/
def outF : Vec F S4096x2048 .f32 := (glue f32_nonempty rectO rectO_disj (fun t => fin m ρ t.1 t.2.1 t.2.2.val t.2.2.isLt)).choose
theorem outF_at (t : Bool × Fin 4 × Fin 2) : (fun j => outF m ρ ((rectO t).emb j)) = fin m ρ t.1 t.2.1 t.2.2.val t.2.2.isLt :=
  funext fun j => (glue f32_nonempty rectO rectO_disj (fun t => fin m ρ t.1 t.2.1 t.2.2.val t.2.2.isLt)).choose_spec t j

/-- The parts in the order device `c` meets them. -/
def parts : List (Bool × Fin 4 × Fin 2) :=
  [(false, ch false c 0, 0), (false, ch false c 0, 1), (false, ch false c 1, 0), (false, ch false c 1, 1), (false, ch false c 2, 0), (false, ch false c 2, 1),
   (false, ch false c 3, 0), (false, ch false c 3, 1), (true, ch true c 0, 0), (true, ch true c 0, 1), (true, ch true c 1, 0), (true, ch true c 1, 1),
   (true, ch true c 2, 0), (true, ch true c 2, 1), (true, ch true c 3, 0), (true, ch true c 3, 1)]
theorem parts_all : ∀ c : Dev nD, (Finset.univ : Finset (Bool × Fin 4 × Fin 2)) = (parts c).toFinset := by decide
theorem parts_nodup : ∀ c : Dev nD, (parts c).Nodup := by decide

/-- Half a chunk of the result at any contents. -/
abbrev OX (e : Bool) (t j : ℕ) (h : j < 2) : sProp 𝕄 := iprop(∃ Y, owns (c : Thread nD τ) (oC e (ch e c t) j h) fullShare Y)
/-- The three chunks of direction `e` that come from the neighbour, at any contents. -/
def O6 (e : Bool) : sProp 𝕄 := iprop(OX c e 0 0 (by decide) ∗ OX c e 0 1 (by decide) ∗ OX c e 1 0 (by decide) ∗ OX c e 1 1 (by decide)
  ∗ OX c e 2 0 (by decide) ∗ OX c e 2 1 (by decide))

theorem out_split : (iprop(∃ X, owns (c : Thread nD τ) outM fullShare X) : sProp 𝕄)
    ⊢ iprop(O6 c false ∗ OA c false 0 (by decide) ∗ OA c false 1 (by decide) ∗ O6 c true ∗ OA c true 0 (by decide) ∗ OA c true 1 (by decide)) := by
  refine (owns_any_split c outM fullShare rectO (fun _ _ => rfl) rectO_disj rectO_cov).trans ?_
  rw [bigSep_univ_eq_bigSepL (parts c) (parts_all c) (parts_nodup c)]
  unfold parts O6
  simp only [sepL_cons, bigSepL_singleton]
  iintro ⟨A0, A1, A2, A3, A4, A5, A6, A7, B0, B1, B2, B3, B4, B5, B6, B7⟩
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [A6]; · iexact A6
  isplitl [A7]; · iexact A7
  isplitl [B0 B1 B2 B3 B4 B5]
  · isplitl [B0]; · iexact B0
    isplitl [B1]; · iexact B1
    isplitl [B2]; · iexact B2
    isplitl [B3]; · iexact B3
    isplitl [B4]; · iexact B4
    iexact B5
  isplitl [B6]; · iexact B6
  iexact B7

/-- The finished parts are the result. -/
theorem out_join : (iprop(
      (Cf m ρ c false 0 0 (by decide) ∗ Cf m ρ c false 0 1 (by decide) ∗ Cf m ρ c false 1 0 (by decide) ∗ Cf m ρ c false 1 1 (by decide)
        ∗ Cf m ρ c false 2 0 (by decide) ∗ Cf m ρ c false 2 1 (by decide) ∗ Cf m ρ c false 3 0 (by decide) ∗ Cf m ρ c false 3 1 (by decide))
      ∗ (Cf m ρ c true 0 0 (by decide) ∗ Cf m ρ c true 0 1 (by decide) ∗ Cf m ρ c true 1 0 (by decide) ∗ Cf m ρ c true 1 1 (by decide)
        ∗ Cf m ρ c true 2 0 (by decide) ∗ Cf m ρ c true 2 1 (by decide) ∗ Cf m ρ c true 3 0 (by decide) ∗ Cf m ρ c true 3 1 (by decide))) : sProp 𝕄)
    ⊢ owns (c : Thread nD τ) outM fullShare (outF m ρ) := by
  refine BIBase.Entails.trans ?_ (owns_of_rects (c : Thread nD τ) outM fullShare rectO (fun _ _ => rfl) rectO_disj rectO_cov (outF m ρ))
  simp only [outF_at]
  rw [bigSep_univ_eq_bigSepL (parts c) (parts_all c) (parts_nodup c)]
  unfold parts
  simp only [sepL_cons, bigSepL_singleton]
  iintro ⟨⟨A0, A1, A2, A3, A4, A5, A6, A7⟩, B0, B1, B2, B3, B4, B5, B6, B7⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [B0]; · iexact B0
  isplitl [B1]; · iexact B1
  isplitl [B2]; · iexact B2
  isplitl [B3]; · iexact B3
  isplitl [B4]; · iexact B4
  isplitl [B5]; · iexact B5
  isplitl [B6]; · iexact B6
  iexact B7

/-! ## The grants -/

/-- What a device hands the device that sends to it in direction `e`: its landing slots and the three chunks of its result. -/
theorem grant_intro (e : Bool) : (iprop(Six c e ∗ O6 c e) : sProp 𝕄) ⊢ grant e c := by
  unfold grant
  rw [bigSep_eq_bigSepL_of_eq [0, 1, 2, 3, 4, 5, 6, 7, 8, 9, 10, 11] (by decide) (by decide)]
  simp only [sepL_cons, bigSepL_singleton]
  have hr : ∀ (k s j : ℕ) (hs : s < 3) (h : j < 2), 2 * s + j = k → (RA c e s j hs h : sProp 𝕄) ⊢ iprop(∃ X, dstOwn c (2 * k + e.toNat) X) := by
    intro k s j hs h hk
    iintro ⟨%Y, H⟩
    iexists Y
    iapply (Entails.of_eq (dstOwn_red (2 * k + e.toNat) s j e (by unfold dir; cases e <;> simp) (by cases e <;> simp <;> omega)
      (by cases e <;> simp <;> omega) hs h c Y).symm)
    iexact H
  have hg : ∀ (k t j : ℕ) (h : j < 2), 6 + 2 * t + j = k → (OX c e t j h : sProp 𝕄) ⊢ iprop(∃ X, dstOwn c (2 * k + e.toNat) X) := by
    intro k t j h hk
    iintro ⟨%Y, H⟩
    iexists Y
    iapply (Entails.of_eq (dstOwn_gat (2 * k + e.toNat) t j e (by unfold dir; cases e <;> simp) (by cases e <;> simp <;> omega)
      (by cases e <;> simp <;> omega) h c Y).symm)
    iexact H
  unfold Six O6
  iintro ⟨⟨A0, A1, A2, A3, A4, A5⟩, B0, B1, B2, B3, B4, B5⟩
  isplitl [A0]; · iapply (hr 0 0 0 _ _ rfl); iexact A0
  isplitl [A1]; · iapply (hr 1 0 1 _ _ rfl); iexact A1
  isplitl [A2]; · iapply (hr 2 1 0 _ _ rfl); iexact A2
  isplitl [A3]; · iapply (hr 3 1 1 _ _ rfl); iexact A3
  isplitl [A4]; · iapply (hr 4 2 0 _ _ rfl); iexact A4
  isplitl [A5]; · iapply (hr 5 2 1 _ _ rfl); iexact A5
  isplitl [B0]; · iapply (hg 6 0 0 _ rfl); iexact B0
  isplitl [B1]; · iapply (hg 7 0 1 _ rfl); iexact B1
  isplitl [B2]; · iapply (hg 8 1 0 _ rfl); iexact B2
  isplitl [B3]; · iapply (hg 9 1 1 _ rfl); iexact B3
  isplitl [B4]; · iapply (hg 10 2 0 _ rfl); iexact B4
  iapply (hg 11 2 1 _ rfl); iexact B5

/-- A family over the copies, by direction. -/
theorem bigSep_dirs (n : ℕ) (f : ℕ → sProp 𝕄) :
    bigSep (Finset.Ico 0 (2 * n)) f = iprop(bigSep (Finset.range n) (fun k => f (2 * k + false.toNat)) ∗ bigSep (Finset.range n) (fun k => f (2 * k + true.toNat))) := by
  have hu : Finset.Ico 0 (2 * n) = (Finset.range n).image (fun k => 2 * k + false.toNat) ∪ (Finset.range n).image (fun k => 2 * k + true.toNat) := by
    ext x
    simp only [Finset.mem_Ico, Finset.mem_union, Finset.mem_image, Finset.mem_range, Bool.toNat_false, Bool.toNat_true]
    constructor
    · intro h
      rcases Nat.mod_two_eq_zero_or_one x with hx | hx
      · exact .inl ⟨x / 2, by omega, by omega⟩
      · exact .inr ⟨x / 2, by omega, by omega⟩
    · rintro (⟨k, h, rfl⟩ | ⟨k, h, rfl⟩) <;> omega
  have hd : Disjoint ((Finset.range n).image (fun k => 2 * k + false.toNat)) ((Finset.range n).image (fun k => 2 * k + true.toNat)) := by
    rw [Finset.disjoint_left]
    simp only [Finset.mem_image, Finset.mem_range, Bool.toNat_false, Bool.toNat_true]
    rintro x ⟨k, _, rfl⟩ ⟨k', _, h⟩; omega
  have hm : ∀ b : Bool, (Finset.range n).image (fun k => 2 * k + b.toNat)
      = (Finset.range n).map ⟨fun k => 2 * k + b.toNat, fun x y h => by have : 2 * x + b.toNat = 2 * y + b.toNat := h; omega⟩ := by
    intro b; rw [Finset.map_eq_image]; rfl
  rw [hu, bigSep_union hd, hm, hm, bigSep_map, bigSep_map]
  rfl

theorem dir_at (k : ℕ) (e : Bool) : dir (2 * k + e.toNat) = e := by unfold dir; cases e <;> simp

/-- The two grants of the neighbours are what the 24 copies write. -/
theorem grants_dst : (iprop(grant false (ch false c 3) ∗ grant true (ch true c 3)) : sProp 𝕄)
    = bigSep (Finset.Ico 0 24) (fun i => iprop(∃ X, dstOwn (tgt c i) i X)) := by
  rw [bigSep_dirs 12]
  unfold grant tgt
  simp only [dir_at]

end Cert.KernelIdeal.Proofs

end
-- ==== Proof.Ideal.Body.lean ====
/-
The body from what a device holds before it to what it holds after it: the phases in order.
-/
module

public import proofs.«01_k».proof.Proof.Ideal.Pieces
public import Idealize.ShloMosaic.Lib.MemrefSat

@[expose] public section

noncomputable section

namespace Cert.KernelIdeal.Proofs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg) (K : Dev nD × Cl → ℕ) (c : Dev nD)

/-! ## Before and after the body -/

/-- The scratch buffers at any contents. -/
def Scr : sProp 𝕄 :=
  iprop(CA c false ∗ CA c true ∗ (∃ Y, owns (c : Thread nD τ) (sM false) fullShare Y) ∗ (∃ Y, owns (c : Thread nD τ) (sM true) fullShare Y)
    ∗ PA c false ∗ PA c true ∗ (∃ Y, owns (c : Thread nD τ) (rM false) fullShare Y) ∗ (∃ Y, owns (c : Thread nD τ) (rM true) fullShare Y))

/-- What a device holds of the rings before the body: the tokens of the duties it discharges, its cells' positions, its
    credits, and its local copies' semaphores at zero. -/
def Ring0 : sProp 𝕄 :=
  iprop((dutyTok ER (barCell (ch false c 1)) 0 false ∗ dutyTok ER (barCell (ch true c 1)) 0 true)
    ∗ (atPos ER (barCell c) 0 ∅ 0 ∗ cred (tallyAt (barCell c) () 2))
    ∗ bigSep (Finset.Ico 0 24) (fun i => dutyTok ER (sndCell c i) 0 false)
    ∗ bigSep (Finset.Ico 0 24) (fun i => dutyTok ER (rcvCell (tgt c i) i) 0 false)
    ∗ bigSep (Finset.Ico 0 24) (fun i => atPos ER (sndCell c i) 0 ∅ 0)
    ∗ bigSep (Finset.Ico 0 24) (fun i => atPos ER (rcvCell c i) 0 ∅ 0)
    ∗ bigSep (Finset.Ico 0 24) (fun i => cred (tallyAt (rcvCell c i) () N))
    ∗ Zl c false ∗ Zl c true)

/-- What it holds of them after: every semaphore at zero. -/
def Ring1 : sProp 𝕄 :=
  iprop(semVal (barCell c) 0 ∗ bigSep (Finset.Ico 0 24) (fun i => semVal (sndCell c i) 0) ∗ bigSep (Finset.Ico 0 24) (fun i => semVal (rcvCell c i) 0)
    ∗ Zl c false ∗ Zl c true)

/-- Before the body. -/
def Pre : sProp 𝕄 :=
  iprop(Env m ρ K ∗ (∃ W : Waits sig Unit, owes (c : Thread nD τ) (O₀ c) W) ∗ Ring0 c ∗ Wm m ρ c ∗ owns (c : Thread nD τ) xM fullShare (xin m ρ c)
    ∗ (∃ X, owns (c : Thread nD τ) outM fullShare X) ∗ Scr c)
/-- After it: the result is `outF`, `x` and the staged rows of `w` are unchanged, nothing is owed. -/
def Post : sProp 𝕄 :=
  iprop((∃ W : Waits sig Unit, owes (c : Thread nD τ) 0 W) ∗ Ring1 c ∗ Wm m ρ c ∗ owns (c : Thread nD τ) xM fullShare (xin m ρ c)
    ∗ owns (c : Thread nD τ) outM fullShare (outF m ρ) ∗ Scr c)

/-- `x`, half a share for each direction's loads. -/
theorem x_halves : (owns (c : Thread nD τ) xM fullShare (xin m ρ c) : sProp 𝕄) = iprop(Xh m ρ c false ∗ Xh m ρ c true) :=
  BI.equiv_iff.mp ⟨(owns_halves (c : Thread nD τ) xM fullShare (xin m ρ c)).1, (owns_halves (c : Thread nD τ) xM fullShare (xin m ρ c)).2⟩

/-- A program that first asks for the device's number. -/
theorem wp_asked (k : Dev nD → PR F PUnit) (Q : sProp 𝕄) : WP c (Prog.lift (TpuEff.deviceId) >>= k) Q = WP c (k c) Q := by
  unfold Prog.lift WP
  simp only [Prog.bind_op, Prog.bind_ret, wp_deviceId]

/-- The ledger before the first copy. -/
theorem led_intro :
    iprop(Env m ρ K ∗ Ow c 0 ∗ (grant false (ch false c 3) ∗ grant true (ch true c 3))
      ∗ bigSep (Finset.Ico 0 24) (fun i => dutyTok ER (sndCell c i) 0 false)
      ∗ bigSep (Finset.Ico 0 24) (fun i => dutyTok ER (rcvCell (tgt c i) i) 0 false)
      ∗ bigSep (Finset.Ico 0 24) (fun i => atPos ER (sndCell c i) 0 ∅ 0)
      ∗ bigSep (Finset.Ico 0 24) (fun i => atPos ER (rcvCell c i) 0 ∅ 0)
      ∗ bigSep (Finset.Ico 0 24) (fun i => cred (tallyAt (rcvCell c i) () N))) ⊢ Led m ρ K c 0 0 0 := by
  have e1 : bigSep (Finset.Ico 0 24) (cSend (F := F) c)
      = iprop(bigSep (Finset.Ico 0 24) (fun i => dutyTok ER (sndCell c i) 0 false)
        ∗ bigSep (Finset.Ico 0 24) (fun i => dutyTok ER (rcvCell (tgt c i) i) 0 false)
        ∗ bigSep (Finset.Ico 0 24) (fun i => iprop(∃ X, dstOwn (tgt c i) i X))) := by
    unfold cSend; rw [bigSep_sep', bigSep_sep']
  have e2 : bigSep (Finset.Ico 0 24) (cRcv (F := F) c)
      = iprop(bigSep (Finset.Ico 0 24) (fun i => atPos ER (rcvCell c i) 0 ∅ 0)
        ∗ bigSep (Finset.Ico 0 24) (fun i => cred (tallyAt (rcvCell c i) () N))) := by
    unfold cRcv; rw [bigSep_sep']
  unfold Led
  rw [e1, e2, grants_dst, Finset.Ico_self, bigSep_empty, bigSep_empty, bigSep_empty]
  iintro ⟨HE, HO, HG, T1, T2, A1, A2, C⟩
  isplitl [HE]; · iexact HE
  isplitl [HO]; · iexact HO
  isplitl [T1 T2 HG]
  · isplitl [T1]; · iexact T1
    isplitl [T2]; · iexact T2
    iexact HG
  isplitl [A2 C]
  · isplitl [A2]; · iexact A2
    iexact C
  isplitr; · iempintro
  isplitl [A1]; · iexact A1
  isplitr; · iempintro
  iempintro

/-- The ledger after the last wait. -/
theorem led_elim : Led m ρ K c 24 24 24 ⊢ iprop((∃ W : Waits sig Unit, owes (c : Thread nD τ) 0 W)
    ∗ bigSep (Finset.Ico 0 24) (fun i => semVal (sndCell c i) 0) ∗ bigSep (Finset.Ico 0 24) (fun i => semVal (rcvCell c i) 0)) := by
  unfold Led Ow
  rw [owedFrom_end]
  iintro ⟨-, HO, -, -, H2, -, -, H5⟩
  isplitl [HO]; · iexact HO
  isplitl [H5]; · iexact H5
  iexact H2

/-- The device's own stored half chunk is the finished one. -/
theorem stD_fin (e : Bool) (t : Fin 2) : stD m ρ c e t = iprop(Cf m ρ c e 3 t.val t.isLt ∗ ShR m ρ c e t.val t.isLt) := by
  unfold stD Cf fin
  rw [ch_three_one]

/-- The two shares of a running sum. -/
theorem sum_any (e : Bool) (j : ℕ) (h : j < 2) : iprop(ShL m ρ c e j h ∗ ShR m ρ c e j h) ⊢ SA c e j h := by
  iintro H
  iexists _
  iapply (owns_halves (c : Thread nD τ) (sV e j h) fullShare (acc m ρ e j h 3 c)).2
  iexact H

set_option maxHeartbeats 1000000 in
/-- The body runs from `Pre` to `Post`. -/
theorem sound_at : Pre m ρ K c ⊢ WP c (progAt c) (Post m ρ c) := by
  unfold Pre Ring0 Scr progAt
  iintro ⟨HE, HO, ⟨⟨Tb1, Tb2⟩, ⟨Ab, Cb⟩, T1, T2, A1, A2, C2, Z0, Z1⟩, HW, HX, HOut, ⟨C0, C1, S0, S1, P0, P1, R0, R1⟩⟩
  ihave S0 := (sum_split c false) $$ S0
  icases S0 with ⟨S00, S01⟩
  ihave S1 := (sum_split c true) $$ S1
  icases S1 with ⟨S10, S11⟩
  ihave R0 := (slots_split c false) $$ R0
  ihave R1 := (slots_split c true) $$ R1
  ihave HOut := (out_split c) $$ HOut
  icases HOut with ⟨O0, OA00, OA01, O1, OA10, OA11⟩
  ihave HX := (Entails.of_eq (x_halves m ρ c)) $$ HX
  icases HX with ⟨X0, X1⟩
  iapply (seq c (wp_entry m ρ K c _ _ (dev1_at c) (dev2_at c))) $$ [HE HO Tb1 Tb2 Ab Cb R0 R1 O0 O1]
  · unfold EntryPre
    isplitl [HE]; · iexact HE
    isplitl [HO]; · iexact HO
    isplitl [Tb1]; · iexact Tb1
    isplitl [Tb2]; · iexact Tb2
    isplitl [R0 O0]
    · iapply (grant_intro c false)
      isplitl [R0]; · iexact R0
      iexact O0
    isplitl [R1 O1]
    · iapply (grant_intro c true)
      isplitl [R1]; · iexact R1
      iexact O1
    isplitl [Ab]; · iexact Ab
    iexact Cb
  iintro ⟨HE, HO, Zb, G0, G1⟩
  ihave HL := (led_intro m ρ K c) $$ [HE HO G0 G1 T1 T2 A1 A2 C2]
  · isplitl [HE]; · iexact HE
    isplitl [HO]; · iexact HO
    isplitl [G0 G1]
    · isplitl [G0]; · iexact G0
      iexact G1
    isplitl [T1]; · iexact T1
    isplitl [T2]; · iexact T2
    isplitl [A1]; · iexact A1
    isplitl [A2]; · iexact A2
    iexact C2
  iapply (seq c (wp_phase0 m ρ K c)) $$ [HL HW X0 C0 P0 Z0 X1 C1 P1 Z1 S00 S10 S01 S11]
  · isplitl [HL]; · iexact HL
    isplitl [HW]; · iexact HW
    unfold Base
    isplitl [X0 C0 P0 Z0]
    · isplitl [X0]; · iexact X0
      isplitl [C0]; · iexact C0
      isplitl [P0]; · iexact P0
      iexact Z0
    isplitl [X1 C1 P1 Z1]
    · isplitl [X1]; · iexact X1
      isplitl [C1]; · iexact C1
      isplitl [P1]; · iexact P1
      iexact Z1
    isplitl [S00]; · iexact S00
    isplitl [S10]; · iexact S10
    isplitl [S01]; · iexact S01
    iexact S11
  iintro ⟨HL, HW, B0, B1⟩
  iapply (seq c (wp_phaseR m ρ K c 0 _ _ _ _ _ (off3_row0 c) (off4_row0 c) _ _ _ _ (dev7_at c) (dev8_at c) (dev9_at c) (dev10_at c))) $$ [HL HW B0 B1]
  · isplitl [HL]; · iexact HL
    isplitl [HW]; · iexact HW
    isplitl [B0]; · iexact B0
    iexact B1
  iintro ⟨HL, HW, B0, B1, Q0⟩
  iapply (seq c (wp_phaseR m ρ K c 1 _ _ _ _ _ (off3_row1 c) (off4_row1 c) _ _ _ _ (dev11_at c) (dev12_at c) (dev13_at c) (dev14_at c))) $$ [HL HW B0 B1]
  · isplitl [HL]; · iexact HL
    isplitl [HW]; · iexact HW
    isplitl [B0]; · iexact B0
    iexact B1
  iintro ⟨HL, HW, B0, B1, Q1⟩
  iapply (seq c (wp_phaseL m ρ K c)) $$ [HL HW B0 B1]
  · isplitl [HL]; · iexact HL
    isplitl [HW]; · iexact HW
    isplitl [B0]; · iexact B0
    iexact B1
  unfold Base
  iintro ⟨HL, HW, ⟨X0, C0, P0, Z0⟩, ⟨X1, C1, P1, Z1⟩, Q2, SR⟩
  iapply (seq c (wp_phaseS m ρ c)) $$ [Z0 Z1 SR OA00 OA10 OA01 OA11]
  · isplitl [Z0]; · iexact Z0
    isplitl [Z1]; · iexact Z1
    isplitl [SR]; · iexact SR
    isplitl [OA00]; · iexact OA00
    isplitl [OA10]; · iexact OA10
    isplitl [OA01]; · iexact OA01
    iexact OA11
  iintro ⟨St0, St1⟩
  iapply (seq c (wp_phaseG m ρ K c)) $$ [HL]
  · iexact HL
  iintro ⟨HL, F020, F120, F021, F121⟩
  iapply (fin_seq c (wp_phaseW m ρ K c)) $$ [HL St0 St1]
  · isplitl [HL]; · iexact HL
    isplitl [St0]; · iexact St0
    iexact St1
  simp only [stD_fin]
  iintro ⟨HL, ⟨L00, L10, L01, L11⟩, ⟨F000, F100, F001, F101⟩, ⟨F010, F110, F011, F111⟩, ⟨⟨F030, R00⟩, ⟨F031, R01⟩, Z0⟩, ⟨⟨F130, R10⟩, ⟨F131, R11⟩, Z1⟩⟩
  ihave HL := (led_elim m ρ K c) $$ HL
  icases HL with ⟨HO, Zs, Zr⟩
  unfold Post Ring1 Scr
  isplitl [HO]; · iexact HO
  isplitl [Zb Zs Zr Z0 Z1]
  · isplitl [Zb]; · iexact Zb
    isplitl [Zs]; · iexact Zs
    isplitl [Zr]; · iexact Zr
    isplitl [Z0]; · iexact Z0
    iexact Z1
  isplitl [HW]; · iexact HW
  isplitl [X0 X1]
  · iapply (Entails.of_eq (x_halves m ρ c).symm)
    isplitl [X0]; · iexact X0
    iexact X1
  isplitl [F000 F001 F010 F011 F020 F021 F030 F031 F100 F101 F110 F111 F120 F121 F130 F131]
  · iapply (out_join m ρ c)
    isplitl [F000 F001 F010 F011 F020 F021 F030 F031]
    · isplitl [F000]; · iexact F000
      isplitl [F001]; · iexact F001
      isplitl [F010]; · iexact F010
      isplitl [F011]; · iexact F011
      isplitl [F020]; · iexact F020
      isplitl [F021]; · iexact F021
      isplitl [F030]; · iexact F030
      iexact F031
    · isplitl [F100]; · iexact F100
      isplitl [F101]; · iexact F101
      isplitl [F110]; · iexact F110
      isplitl [F111]; · iexact F111
      isplitl [F120]; · iexact F120
      isplitl [F121]; · iexact F121
      isplitl [F130]; · iexact F130
      iexact F131
  unfold Slots
  icases Q0 with ⟨Q000, Q100, Q001, Q101⟩
  icases Q1 with ⟨Q010, Q110, Q011, Q111⟩
  icases Q2 with ⟨Q020, Q120, Q021, Q121⟩
  isplitl [C0]; · iexact C0
  isplitl [C1]; · iexact C1
  isplitl [L00 L01 R00 R01]
  · iapply (sum_join c false)
    isplitl [L00 R00]
    · iapply (sum_any m ρ c false 0 _)
      isplitl [L00]; · iexact L00
      iexact R00
    · iapply (sum_any m ρ c false 1 _)
      isplitl [L01]; · iexact L01
      iexact R01
  isplitl [L10 L11 R10 R11]
  · iapply (sum_join c true)
    isplitl [L10 R10]
    · iapply (sum_any m ρ c true 0 _)
      isplitl [L10]; · iexact L10
      iexact R10
    · iapply (sum_any m ρ c true 1 _)
      isplitl [L11]; · iexact L11
      iexact R11
  isplitl [P0]; · iexact P0
  isplitl [P1]; · iexact P1
  isplitl [Q000 Q001 Q010 Q011 Q020 Q021]
  · iapply (slots_join c false)
    unfold Six
    isplitl [Q000]; · iexact Q000
    isplitl [Q001]; · iexact Q001
    isplitl [Q010]; · iexact Q010
    isplitl [Q011]; · iexact Q011
    isplitl [Q020]; · iexact Q020
    iexact Q021
  · iapply (slots_join c true)
    unfold Six
    isplitl [Q100]; · iexact Q100
    isplitl [Q101]; · iexact Q101
    isplitl [Q110]; · iexact Q110
    isplitl [Q111]; · iexact Q111
    isplitl [Q120]; · iexact Q120
    iexact Q121

/-- The same of the program that first asks for the device's number. -/
theorem sound_prog : Pre m ρ K c ⊢ WP c prog (Post m ρ c) := by
  unfold prog
  rw [wp_asked]
  exact sound_at m ρ K c

end Cert.KernelIdeal.Proofs

end
-- ==== Proof.Ideal.Launch.lean ====
/-
The launch: the ghost state of the two rings dealt to the devices, the region's proof data, and the run of the whole
program.
-/
module

public import proofs.«01_k».proof.Proof.Ideal.Body
public import proofs.«01_k».proof.Proof.Gen.KernelIdeal.Points
public import Idealize.ShloMosaic.Lib.Pipeline.CollectiveSegs
public import Idealize.ShloMosaic.Lib.Quiescent
public import Idealize.ShloMosaic.Lib.MemrefSat

@[expose] public section

noncomputable section

namespace Cert.KernelIdeal.Proofs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## Families over a device's cells -/

theorem bigSep_opt {I : Type} [Fintype I] [DecidableEq I] (Φ : Option I → sProp 𝕄) :
    bigSep Finset.univ Φ = iprop(Φ none ∗ bigSep Finset.univ (fun i => Φ (some i))) := by
  rw [show (Finset.univ : Finset (Option I)) = insert none (Finset.univ.map Function.Embedding.some) from by
      ext x; cases x <;> simp, bigSep_insert (by simp), bigSep_map]
  rfl

theorem bigSep_bool (Φ : Bool → sProp 𝕄) : bigSep Finset.univ Φ = iprop(Φ false ∗ Φ true) := by
  rw [bigSep_univ_eq_bigSepL [false, true] (by decide) (by decide), bigSepL_cons_cons, bigSepL_singleton]; rfl

theorem bigSep_fin (n : ℕ) (f : ℕ → sProp 𝕄) : bigSep Finset.univ (fun i : Fin n => f i.val) = bigSep (Finset.Ico 0 n) f := by
  rw [show Finset.Ico 0 n = (Finset.univ : Finset (Fin n)).map Fin.valEmbedding from by
    ext x
    simp only [Finset.mem_Ico, Finset.mem_map, Finset.mem_univ, true_and, Fin.valEmbedding_apply]
    exact ⟨fun h => ⟨⟨x, h.2⟩, rfl⟩, fun ⟨i, hi⟩ => hi ▸ ⟨Nat.zero_le _, i.isLt⟩⟩, bigSep_map]
  rfl

/-- A family over the copies' cells of a device. -/
theorem bigSep_ends (f : Bool × Fin 24 → sProp 𝕄) :
    bigSep Finset.univ f = iprop(bigSep Finset.univ (fun i => f (false, i)) ∗ bigSep Finset.univ (fun i => f (true, i))) := by
  rw [bigSep_univ_prod, bigSep_bool]

theorem bigSep_cl (c : Dev nD) (Ψ : GSem nD τ sig → sProp 𝕄) :
    bigSep Finset.univ (fun k : Cl => Ψ (kcell (c, k)))
      = iprop(Ψ (barCell c) ∗ bigSep (Finset.Ico 0 24) (fun i => Ψ (sndCell c i)) ∗ bigSep (Finset.Ico 0 24) (fun i => Ψ (rcvCell c i))) := by
  rw [bigSep_opt, bigSep_ends, ← bigSep_fin 24 (fun i => Ψ (sndCell c i)), ← bigSep_fin 24 (fun i => Ψ (rcvCell c i))]

/-! ## The semaphores at launch -/

/-- A copy's semaphore at an end. -/
abbrev endS : Bool × Fin 24 → SemLoc sig
  | (false, i) => .dma (sndI i.val)
  | (true, i) => .dma (rcvI i.val)
theorem role_endS (x : Bool × Fin 24) : role (endS x) = some (x.1, x.2.val) := by
  obtain ⟨b, i⟩ := x
  cases b
  · exact role_snd i.isLt
  · exact role_rcv i.isLt
theorem endS_inj : Function.Injective endS := fun x y h => by
  have e : some (x.1, x.2.val) = some (y.1, y.2.val) := by rw [← role_endS, ← role_endS, h]
  have e2 := Option.some.inj e
  exact Prod.ext (Prod.mk.inj e2).1 (Fin.ext (Prod.mk.inj e2).2)

/-- The kernel's own semaphores: the two of the local copies and the copies'. -/
abbrev osem : Bool ⊕ (Bool × Fin 24) → SemLoc sig
  | .inl e => .dma (lS e).sem
  | .inr x => endS x

theorem osem_inj : Function.Injective osem := by
  rintro (e | x) (e' | y) h
  · have : ∀ e e' : Bool, (SemLoc.dma (lS e).sem : SemLoc sig) = .dma (lS e').sem → e = e' := by decide
    exact congrArg _ (this e e' h)
  · have h2 : role (.dma (lS e).sem) = role (endS y) := congrArg role h
    rw [role_lS, role_endS] at h2; cases h2
  · have h2 : role (endS x) = role (.dma (lS e').sem) := congrArg role h
    rw [role_lS, role_endS] at h2; cases h2
  · exact congrArg _ (endS_inj h)

theorem ownSemFacts : Pipeline.OwnSemFacts cfg0.spec osem where
  isScoped := by decide
  inj := osem_inj
  disj := by decide

theorem kcell_injective : Function.Injective (kcell : Dev nD × Cl → GSem nD τ sig) := by
  rintro ⟨c, k⟩ ⟨c', k'⟩ h
  have h1 : c = c' := by have := congrArg (fun g : GSem nD τ sig => g.1.1) h; exact this
  subst h1
  have h2 : csem k = csem k' := congrArg Prod.snd h
  have hs : ∀ x, csem (some x) = endS x := fun ⟨b, i⟩ => by cases b <;> rfl
  have hr : ∀ x : Bool × Fin 24, csem (some x) ≠ csem none := fun x hx => by
    have h3 := congrArg role hx
    rw [hs, role_endS] at h3; cases h3
  rcases k with _ | x <;> rcases k' with _ | y
  · rfl
  · exact absurd h2.symm (hr y)
  · exact absurd h2 (hr x)
  · rw [hs, hs] at h2; rw [endS_inj h2]

def ringCells : Finset (GSem nD τ sig) := Finset.univ.map ⟨kcell, kcell_injective⟩

/-- A device's own cells' duty tokens as minted: its barrier's two, and one per end of a copy. -/
abbrev tokOf (cj : Dev nD × (Bool ⊕ (Bool × Fin 24))) : GSem nD τ sig × ℕ × Bool := match cj.2 with
  | .inl b => (barCell cj.1, 0, b)
  | .inr x => (((cj.1 : Thread nD τ), endS x), 0, false)
theorem tokOf_injective : Function.Injective tokOf := by
  rintro ⟨c, j⟩ ⟨c', j'⟩ h
  have h1 : c = c' := by
    have := congrArg (fun x : GSem nD τ sig × ℕ × Bool => x.1.1.1) h
    rcases j with b | x <;> rcases j' with b' | y <;> exact this
  subst h1
  have hr : ∀ x : Bool × Fin 24, endS x ≠ .reg barS := fun x hx => by
    have h3 := congrArg role hx
    rw [role_endS] at h3; cases h3
  rcases j with b | x <;> rcases j' with b' | y
  · have h2 : b = b' := congrArg (fun x : GSem nD τ sig × ℕ × Bool => x.2.2) h
    rw [h2]
  · exact absurd (congrArg (fun x : GSem nD τ sig × ℕ × Bool => x.1.2) h).symm (hr y)
  · exact absurd (congrArg (fun x : GSem nD τ sig × ℕ × Bool => x.1.2) h) (hr x)
  · have h2 : endS x = endS y := congrArg (fun x : GSem nD τ sig × ℕ × Bool => x.1.2) h
    rw [endS_inj h2]
def ringToks : Finset (GSem nD τ sig × ℕ × Bool) := Finset.univ.map ⟨tokOf, tokOf_injective⟩

/-- The ghost state at launch. -/
def u₀ : UU :=
  (initOf (Pipeline.cells cfgs cellOf_inj) (Pipeline.launchToks cfgs cellOf_inj), (initOf ringCells ringToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duty tokens of device `c`'s own cells. -/
def toks (c : Dev nD) : sProp 𝕄 :=
  iprop((dutyTok ER (barCell c) 0 false ∗ dutyTok ER (barCell c) 0 true)
    ∗ (bigSep Finset.univ fun i : Fin 24 => dutyTok ER (sndCell c i.val) 0 false) ∗ bigSep Finset.univ fun i : Fin 24 => dutyTok ER (rcvCell c i.val) 0 false)

/-- What the launch deals device `c`. -/
def G (c : Dev nD) : sProp 𝕄 :=
  iprop((bigSep Finset.univ fun k : Cl => roundState ER (ringRd m ρ) (kcell (c, k)) 0)
    ∗ (bigSep Finset.univ fun k : Cl => iprop(atPos ER (kcell (c, k)) 0 ∅ 0 ∗ reached ER (kcell (c, k)) 0)) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Cl => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks; rw [bigSep_univ_sum, bigSep_bool, bigSep_ends]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((Zl c false ∗ Zl c true) ∗ bigSep (Finset.Ico 0 24) (fun i => semVal (sndCell c i) 0) ∗ bigSep (Finset.Ico 0 24) (fun i => semVal (rcvCell c i) 0)) := by
  unfold Pipeline.ownSems0
  rw [bigSep_univ_sum, bigSep_bool, bigSep_ends, ← bigSep_fin 24 (fun i => semVal (sndCell c i) 0), ← bigSep_fin 24 (fun i => semVal (rcvCell c i) 0)]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Cl => semVal (kcell (c, k)) 0) ∗ Zl c false ∗ Zl c true) : sProp 𝕄) := by
  rw [ownSems0_eq, unscopedSems0_eq, bigSep_cl c (fun g => semVal g 0)]
  iintro ⟨⟨⟨Z0, Z1⟩, HS, HV⟩, HB⟩
  isplitl [HB HS HV]
  · isplitl [HB]; · iexact HB
    isplitl [HS] <;> iassumption
  isplitl [Z0] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c ∗ Zl c false ∗ Zl c true) := by
  unfold G
  iintro ⟨Hos, Hus, Hst, Hat, Htok⟩
  ihave Hv := (sems0_eq (F := F) c) $$ [Hos Hus]
  · isplitl [Hos] <;> iassumption
  icases Hv with ⟨Hv, HZ⟩
  imod (show iprop((bigSep Finset.univ fun k : Cl => semVal (kcell (c, k)) 0) ∗ bigSep Finset.univ fun k : Cl => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HZ

/-- The tokens of the duties device `c` discharges. -/
def payToks (c : Dev nD) : sProp 𝕄 :=
  iprop((dutyTok ER (barCell (ch false c 1)) 0 false ∗ dutyTok ER (barCell (ch true c 1)) 0 true)
    ∗ (bigSep Finset.univ fun i : Fin 24 => dutyTok ER (sndCell c i.val) 0 false)
    ∗ bigSep Finset.univ fun i : Fin 24 => dutyTok ER (rcvCell (tgt c i.val) i.val) 0 false)
/-- What stays with device `c`: its positions, the tokens of the duties it discharges, its local copies' semaphores. -/
def linear (c : Dev nD) : sProp 𝕄 :=
  iprop((bigSep Finset.univ fun k : Cl => atPos ER (kcell (c, k)) 0 ∅ 0) ∗ payToks c ∗ Zl c false ∗ Zl c true)
/-- What the global step makes of the launch's share. -/
def G' (c : Dev nD) : sProp 𝕄 := iprop(∃ K, records m ρ K ∗ linear c)

/-- The step against direction `e` as a permutation of the devices. -/
def ringE (e : Bool) : Dev nD ≃ Dev nD := ⟨fun c => ch e c 1, fun c => ch e c 3, ch_one_three e, ch_three_one e⟩

/-- The tokens dealt around the rings. -/
theorem toks_around : (bigSep Finset.univ fun c : Dev nD => (toks c : sProp 𝕄)) ⊢ bigSep Finset.univ fun c : Dev nD => payToks c := by
  have h : (bigSep Finset.univ fun c : Dev nD => bigSep Finset.univ fun i : Fin 24 => (dutyTok ER (rcvCell c i.val) 0 false : sProp 𝕄))
      = bigSep Finset.univ fun c : Dev nD => bigSep Finset.univ fun i : Fin 24 => dutyTok ER (rcvCell (tgt c i.val) i.val) 0 false := by
    rw [bigSep_univ_comm (fun (c : Dev nD) (i : Fin 24) => (dutyTok ER (rcvCell c i.val) 0 false : sProp 𝕄)),
      bigSep_univ_comm (fun (c : Dev nD) (i : Fin 24) => (dutyTok ER (rcvCell (tgt c i.val) i.val) 0 false : sProp 𝕄))]
    exact bigSep_congr fun i _ => bigSep_univ_equiv (ringE (dir i.val)).symm (fun c : Dev nD => (dutyTok ER (rcvCell c i.val) 0 false : sProp 𝕄))
  unfold toks payToks
  simp only [bigSep_sep']
  rw [h, bigSep_univ_equiv (ringE false) (fun c : Dev nD => (dutyTok ER (barCell c) 0 false : sProp 𝕄)),
    bigSep_univ_equiv (ringE true) (fun c : Dev nD => (dutyTok ER (barCell c) 0 true : sProp 𝕄))]
  exact Entails.refl _

/-- Every device gets the records, which persist, beside its own share. -/
theorem share_records (K : Dev nD × Cl → ℕ) : iprop(records m ρ K ∗ bigSep Finset.univ fun c : Dev nD => linear c) ⊢ bigSep Finset.univ (G' m ρ) := by
  refine (sep_mono_left (BI.bigSep_of_persistent (Finset.univ : Finset (Dev nD)) (records m ρ K))).trans ?_
  rw [← bigSep_sep']
  exact bigSep_mono fun c _ => show iprop(records m ρ K ∗ linear c) ⊢ G' m ρ c from by
    unfold G'
    iintro H
    iexists K
    iexact H

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c ∗ Zl c false ∗ Zl c true) : sProp 𝕄)
      ⊢ bigSep Finset.univ (G' m ρ) := by
  rw [bigSep_sep', bigSep_sep', bigSep_sep', ← bigSep_univ_prod (fun ck : Dev nD × Cl => iprop(∃ κ : ℕ, cellInv ER (ringRd m ρ) κ (kcell ck))),
    bigSep_congr (s := Finset.univ) (fun (c : Dev nD) _ => bigSep_sep' Finset.univ (fun k : Cl => (atPos ER (kcell (c, k)) 0 ∅ 0 : sProp 𝕄)) (fun k => reached ER (kcell (c, k)) 0)),
    bigSep_sep', ← bigSep_univ_prod (fun ck : Dev nD × Cl => (reached ER (kcell ck) 0 : sProp 𝕄))]
  iintro ⟨HI, ⟨Hat, #HR⟩, Htok, HZ⟩
  ihave HK := (BI.bigSep_exists_pi Finset.univ (fun (ck : Dev nD × Cl) (κ : ℕ) => (cellInv ER (ringRd m ρ) κ (kcell ck) : sProp 𝕄))) $$ HI
  icases HK with ⟨%K, #HI⟩
  ihave Htk := (toks_around (F := F)) $$ Htok
  iapply (share_records m ρ K)
  isplitr
  · unfold records; isplitl; · iexact HI
    iexact HR
  · iapply (Entails.of_eq (show (bigSep Finset.univ fun c : Dev nD => (linear c : sProp 𝕄)) = _ from by
      unfold linear; rw [bigSep_sep', bigSep_sep']).symm)
    isplitl [Hat]; · iexact Hat
    isplitl [Htk]; · iexact Htk
    iexact HZ

/-- The global step: every device's semaphores become its cells. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : (barCell a = barCell b) ↔ (a = b) :=
  ⟨fun h => Fin.ext (congrArg (fun g : GSem nD τ sig => g.1.1.val) h), fun h => h ▸ rfl⟩
theorem rcv_eq {a b : Dev nD} {i k : ℕ} (hi : i < 24) (hk : k < 24) (h : rcvCell a i = rcvCell b k) : a = b ∧ i = k := by
  refine ⟨Fin.ext (congrArg (fun g : GSem nD τ sig => g.1.1.val) h), ?_⟩
  have h2 : role (.dma (rcvI i)) = role (.dma (rcvI k)) := congrArg (fun g : GSem nD τ sig => role g.2) h
  rw [role_rcv hi, role_rcv hk] at h2
  exact (Prod.mk.inj (Option.some.inj h2)).2

theorem owedFrom_bar (d c : Dev nD) (u : Unit) : owedFrom d 0 (barCell c) u = 0 := by
  by_contra hn
  obtain ⟨i, _, _, h⟩ := owedFrom_pos (Nat.pos_of_ne_zero hn)
  exact dma_ne_bar _ (congrArg Prod.snd h).symm

theorem owed_bar (d c : Dev nD) : O₀ d (barCell c) () = (if d = ch true c 3 then 1 else 0) + (if d = ch false c 3 then 1 else 0) := by
  unfold O₀ O₁
  rw [Pi.add_apply, Finsupp.add_apply, Pi.add_apply, Finsupp.add_apply, owedFrom_bar, tallyAt_apply, tallyAt_apply, Nat.zero_add]
  have h : ∀ e : Bool, (barCell c = barCell (ch e d 1) ∧ () = ()) ↔ d = ch e c 3 := fun e => by
    rw [and_iff_left rfl, bar_eq_iff]
    exact ⟨fun h => by rw [h, ch_one_three], fun h => by rw [h, ch_three_one]⟩
  exact congrArg₂ (· + ·) (if_congr (h true) rfl rfl) (if_congr (h false) rfl rfl)

theorem owed_rcv (d c : Dev nD) {i : ℕ} (hi : i < 24) : O₀ d (rcvCell c i) () = if d = ch (dir i) c 1 then N else 0 := by
  unfold O₀ O₁
  rw [Pi.add_apply, Finsupp.add_apply, Pi.add_apply, Finsupp.add_apply,
    tallyAt_ne_cell (fun h => dma_ne_bar _ (congrArg Prod.snd h)), tallyAt_ne_cell (fun h => dma_ne_bar _ (congrArg Prod.snd h)),
    Finsupp.zero_apply, Nat.add_zero, Nat.add_zero]
  unfold owedFrom
  rw [Finset.sum_apply, Finsupp.finset_sum_apply, Finset.sum_eq_single i]
  · rw [tallyAt_apply]
    refine if_congr ?_ rfl rfl
    rw [and_iff_left rfl]
    exact ⟨fun h => by rw [(rcv_eq hi hi h).1, ch_three_one], fun h => by rw [h]; unfold tgt; rw [ch_one_three]⟩
  · intro k hk hne
    rw [tallyAt_apply, if_neg fun h => hne (rcv_eq hi (Finset.mem_Ico.mp hk).2 h.1).2.symm]
  · intro h; exact absurd (Finset.mem_Ico.mpr ⟨Nat.zero_le _, hi⟩) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (ch true c 3) fun _ => 1, Finset.sum_ite_eq' Finset.univ (ch false c 3) fun _ => 1, if_pos (Finset.mem_univ _), if_pos (Finset.mem_univ _)]

theorem launch_rcv (c : Dev nD) {i : ℕ} (hi : i < 24) :
    tallyOn (rcvCell c i) (launchCredit (Pipeline.owing O₀) 0 (rcvCell c i)) = (tallyAt (rcvCell c i) () N : CellTallies nD τ sig Unit) := by
  unfold tallyAt; refine congrArg _ (Finsupp.ext fun u => ?_); cases u
  rw [Pipeline.launchCredit_owing, Finsupp.single_eq_same, Finset.sum_congr rfl fun d _ => owed_rcv d c hi,
    Finset.sum_ite_eq' Finset.univ (ch (dir i) c 1) fun _ => N, if_pos (Finset.mem_univ _)]

/-- The receiving ends' semaphores. -/
def rcvEmb : Fin 24 ↪ SemLoc sig := ⟨fun i => .dma (rcvI i.val), fun i j h => by
  have h2 : role (.dma (rcvI i.val)) = role (.dma (rcvI j.val)) := congrArg role h
  rw [role_rcv i.isLt, role_rcv j.isLt] at h2
  exact Fin.ext (Prod.mk.inj (Option.some.inj h2)).2⟩

theorem creds (c : Dev nD) : (Pipeline.launchCred O₀ c : sProp 𝕄)
    ⊢ iprop(cred (tallyAt (barCell c) () 2) ∗ bigSep (Finset.Ico 0 24) (fun i => cred (tallyAt (rcvCell c i) () N))) := by
  unfold Pipeline.launchCred
  rw [bigSep_univ_at _ (SemLoc.reg barS), launch_bar]
  refine sep_mono_right ?_
  have hs : Finset.univ.map rcvEmb ⊆ (Finset.univ : Finset (SemLoc sig)).erase (.reg barS) := fun x hx => by
    obtain ⟨i, -, rfl⟩ := Finset.mem_map.mp hx
    exact Finset.mem_erase.mpr ⟨dma_ne_bar _, Finset.mem_univ _⟩
  refine (bigSep_subset hs).trans ?_
  rw [bigSep_map, ← bigSep_fin 24 (fun i => (cred (tallyAt (rcvCell c i) () N) : sProp 𝕄))]
  refine bigSep_mono fun i _ => ?_
  rw [← launch_rcv c i.isLt]
  exact Entails.refl _

/-! ## The region's proof data -/

/-- What device `c` holds when the kernel starts, its scratch buffers aside. -/
def start (c : Dev nD) : sProp 𝕄 :=
  iprop(G' m ρ c ∗ (cred (tallyAt (barCell c) () 2) ∗ bigSep (Finset.Ico 0 24) (fun i => cred (tallyAt (rcvCell c i) () N))) ∗ levAts L lv
    ∗ owns (c : Thread nD τ) xM fullShare (xin m ρ c) ∗ ∃ X, owns (c : Thread nD τ) outM fullShare X)
def Φ₀ (c : Dev nD) : sProp 𝕄 := iprop(start m ρ c ∗ Scr c)
def Φ₁ (c : Dev nD) : sProp 𝕄 :=
  iprop(Ring1 c ∗ owns (c : Thread nD τ) xM fullShare (xin m ρ c) ∗ owns (c : Thread nD τ) outM fullShare (outF m ρ) ∗ Scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => win m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

set_option maxRecDepth 8000 in
/-- The staged rows of `w` at the body. -/
theorem before_eq (c : Dev nD) (d) : (dats m ρ 0 c).before (0 : Fin 1) t0_0 d = win m ρ c := by
  unfold Dat.before; rw [if_pos (fetch0_0 t0_0)]; rfl

def pre' (c : Dev nD) : sProp 𝕄 :=
  iprop(Φ₀ m ρ c ∗ (dats m ρ 0 c).owesAt () t0_0.castSucc
    ∗ (∃ d, owns (c : Thread nD τ) wM fullShare ((dats m ρ 0 c).before (0 : Fin 1) t0_0 d)))
def post' (c : Dev nD) : sProp 𝕄 :=
  iprop(Φ₁ m ρ c ∗ (dats m ρ 0 c).owesAt () t0_0.succ ∗ owns (c : Thread nD τ) wM fullShare (win m ρ c))

theorem sound' (c : Dev nD) : pre' m ρ c ⊢ WP c prog (post' m ρ c) := by
  unfold pre' Φ₀ start G' linear payToks
  iintro ⟨⟨⟨⟨%K, HR, Hat, ⟨HTb, HT1, HT2⟩, Z0, Z1⟩, ⟨Cb, Cr⟩, Hlev, HX, HOut⟩, HS⟩, Ho, ⟨%d, Hw⟩⟩
  unfold Dat.owesAt Pipeline.owesWithin
  icases Ho with ⟨%W, %hW, HO⟩
  ihave Hat := (Entails.of_eq (bigSep_cl (F := F) c (fun g => atPos ER g 0 ∅ 0))) $$ Hat
  icases Hat with ⟨Ab, A1, A2⟩
  ihave HT1 := (Entails.of_eq (bigSep_fin 24 (fun i => (dutyTok ER (sndCell c i) 0 false : sProp 𝕄)))) $$ HT1
  ihave HT2 := (Entails.of_eq (bigSep_fin 24 (fun i => (dutyTok ER (rcvCell (tgt c i) i) 0 false : sProp 𝕄)))) $$ HT2
  ihave Hw := (Entails.of_eq (congrArg (fun X => (owns (c : Thread nD τ) wM fullShare X : sProp 𝕄)) (before_eq m ρ c d))) $$ Hw
  ihave H := (sound_prog m ρ K c) $$ [HR HTb HT1 HT2 Z0 Z1 Cb Cr Hlev HX HOut HS HO Hw Ab A1 A2]
  · unfold Pre Ring0 Env Wm
    isplitl [HR Hlev]
    · isplitl [HR]; · iexact HR
      iexact Hlev
    isplitl [HO]; · iexists W; iexact HO
    isplitl [HTb HT1 HT2 Z0 Z1 Cb Cr Ab A1 A2]
    · isplitl [HTb]; · iexact HTb
      isplitl [Ab Cb]
      · isplitl [Ab]; · iexact Ab
        iexact Cb
      isplitl [HT1]; · iexact HT1
      isplitl [HT2]; · iexact HT2
      isplitl [A1]; · iexact A1
      isplitl [A2]; · iexact A2
      isplitl [Cr]; · iexact Cr
      isplitl [Z0]; · iexact Z0
      iexact Z1
    isplitl [Hw]; · iexact Hw
    isplitl [HX]; · iexact HX
    isplitl [HOut]; · iexact HOut
    iexact HS
  iapply (wp_wand frame (wpE (defs₀ (F := F)) 𝒱₀ (c : Thread nD τ) none) Set.univ) $$ H
  iintro %a HP
  unfold Post post' Φ₁ Wm Dat.owesAt Pipeline.owesWithin
  icases HP with ⟨⟨%W', HO⟩, HR, Hw, HX, HOut, HS⟩
  isplitl [HR HX HOut HS]
  · isplitl [HR]; · iexact HR
    isplitl [HX]; · iexact HX
    isplitl [HOut]; · iexact HOut
    iexact HS
  isplitl [HO]
  · iexists W'
    isplitr; · (ipureintro; exact fun _ _ => Or.inl trivial)
    iexact HO
  iexact Hw

set_option maxRecDepth 65536 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  show pre' m ρ c ⊢ wp frame (wpE (defs₀ (F := F)) 𝒱₀ c none) Set.univ (bodyAt0 (F := F) t0_0) (fun _ => post' m ρ c)
  rw [show bodyAt0 (F := F) t0_0 = prog from body_eq]
  exact sound' m ρ c

/-! ## The launch theorem's side conditions -/

/-- A buffer at any contents, as a memref. -/
theorem any_whole (c : Dev nD) (b : Ref sig .tc) :
    (iprop(∃ f : Buf (Elt F) ((c : Thread nD τ).loc b), ((c : Thread nD τ).loc b) ↦{fullShare} f) : sProp 𝕄)
      = iprop(∃ Y, owns (c : Thread nD τ) (Memref.whole b) fullShare Y) :=
  congrArg BI.BIBase.exists (funext fun f => (owns_whole (c : Thread nD τ) b fullShare f).symm)

theorem scr_eq (c : Dev nD) : (Pipeline.scopedRest (Ix := Unit) (Name := ℕ) (U := UU) (Lvl := ℕ) (Val := Elt F) spec0 c : sProp 𝕄) = Scr c := by
  rw [scopedRest0_eq]
  simp only [any_whole]
  rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨⟨Hx, Ho⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hx]
    · iapply (Entails.of_eq (owns_whole (c : Thread nD τ) main_arg0 fullShare (xin m ρ c)).symm); iexact Hx
    iexists m ((c : Thread nD τ).loc main_v1)
    iapply (Entails.of_eq (owns_whole (c : Thread nD τ) main_v1 fullShare (m ((c : Thread nD τ).loc main_v1))).symm); iexact Ho
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (Entails.of_eq (scr_eq c)); iexact Hr

/-- What the exit reads: the barrier's counter at zero, `x` unchanged, the result. -/
def Yx (c : Dev nD) : sProp 𝕄 :=
  iprop(unscopedSems0 c ∗ ((c : Thread nD τ).loc main_arg0 ↦{fullShare} m ((c : Thread nD τ).loc main_arg0)) ∗ ((c : Thread nD τ).loc main_v1 ↦{fullShare} outF m ρ))

theorem phi1_exit (c : Dev nD) :
    (dats m ρ 0 c).Φ (Fin.last cfg0.N) ⊢ iprop(Yx m ρ c ∗ Pipeline.ownSems0 osem c ∗ Pipeline.scopedRest cfg0.spec c) := by
  rw [show (dats m ρ 0 c).Φ (Fin.last cfg0.N) = Φ₁ m ρ c from rfl, ownSems0_eq]
  unfold Φ₁ Yx Ring1
  rw [unscopedSems0_eq]
  iintro ⟨⟨Zb, Zs, Zr, Z0, Z1⟩, Hx, Ho, Hr⟩
  isplitl [Zb Hx Ho]
  · isplitl [Zb]; · iexact Zb
    isplitl [Hx]
    · iapply (Entails.of_eq (owns_whole (c : Thread nD τ) main_arg0 fullShare (xin m ρ c))); iexact Hx
    iapply (Entails.of_eq (owns_whole (c : Thread nD τ) main_v1 fullShare (outF m ρ))); iexact Ho
  isplitl [Zs Zr Z0 Z1]
  · isplitl [Z0 Z1]
    · isplitl [Z0] <;> iassumption
    isplitl [Zs] <;> iassumption
  iapply (Entails.of_eq (scr_eq c).symm); iexact Hr

theorem lv_stage (c : Dev nD) (w : Fin cfg0.W) (s : Fin (cfg0.win w).nbuf) :
    lv (((c : Thread nD τ)), SemLoc.dma ((cfg0.win w).sem s)) () = 0 := by
  refine lv_none c ?_ ()
  revert w s
  decide

theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_stage c w s) _ (by
      rcases t with ⟨_ | _, ht⟩
      · exact Or.inl rfl
      · exact Or.inr rfl)

/-! ## The run -/

/-- What the exit finds on device `c`. -/
def QYx (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ s.mem ((c : Thread nD τ).loc main_v1) = outF m ρ

theorem read_exit (c : Dev nD) (s' : Phys nD τ sig (Elt F)) :
    iprop(Yx m ρ c ∗ emp ∗ SI s') ⊢ (|={Set.univ}=> iprop(⌜QYx m ρ c s'.mem⌝ ∗ SI s') : sProp 𝕄) := by
  unfold Yx
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ hx, Buf.eq_of_forall_mem_univ ho⟩
  iexact HSI

/-- After the run: on every device `x` and `w` are as they were and the result is `outF`. -/
def QC : PUnit × MemSt nD τ sig (Elt F) → Prop := fun r =>
  ∀ c : Dev nD, r.2.mem ((c : Thread nD τ).loc main_arg0) = m ((c : Thread nD τ).loc main_arg0)
    ∧ r.2.mem ((c : Thread nD τ).loc main_arg1) = m ((c : Thread nD τ).loc main_arg1) ∧ r.2.mem ((c : Thread nD τ).loc main_v1) = outF m ρ

theorem final_w (c : Dev nD) : (dats m ρ 0 c).arrAt (0 : Fin 1) cfg0.N = m ((c : Thread nD τ).loc main_arg1) :=
  (dats (F := F) m ρ 0 c).arrAt_in (0 : Fin 1) rfl _

set_option maxRecDepth 65536 in
/-- On the four devices, for any float values, from any memory with zero counters: every weakly fair execution of the
    kernel ends, with `x` and `w` unchanged, the result at `outF` on every device, and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_split _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := Yx m ρ) (Z := fun _ => iprop(emp))
    (hX := start_intro m ρ) (hin := phi0_intro m ρ) (hout := phi1_exit m ρ)
    (QY := QYx m ρ)
    (hY := read_exit m ρ)
    (hQ := fun _ h hs => ⟨fun c => ⟨(h c).2.2.2.1, ((h c).1 0).trans (final_w m ρ c), (h c).2.2.2.2⟩, sem_eq_zero hs fun c => (h c).2.2.1⟩)

end Cert.KernelIdeal.Proofs

end
-- ==== Proof.Ideal.Value.lean ====
/-
The kernel's result over the extended reals: each half chunk is the sum over the devices of the partial products, which
is the product of the whole arrays.
-/
module

public import proofs.«01_k».proof.Proof.Ideal.Launch
public import proofs.«01_k».proof.Proof.Gen.ReferenceIdeal.Run
public import Idealize.ShloMosaic.PureOps.Ideal
public import Idealize.ShloMosaic.Lib.KernelVsHost
public import Idealize.ShloMosaic.Lib.StackMember
public import Idealize.ShloMosaic.Lib.Layout
public import Idealize.ShloMosaic.Lib.Pipeline.Value
public import Idealize.ShloMosaic.Lib.Pipeline.ValueKit.Geometry

@[expose] public section

noncomputable section

namespace Cert.KernelIdeal.Proofs

open Cert.KernelIdeal Cert.KernelIdeal.Gen
open Idealize.ShloMosaic Idealize.ShloMosaic.TcCoe Idealize.ShloMosaic.ValueIdx
open Idealize.SL.Sem
open scoped BigOperators

variable (m : (ℓ : Loc nD τ sig) → Buf (Elt Ideal) ℓ) (ρ : Dev nD → PrngReg)

variable (X : FVec Ideal ⟨2, ![4096, 4096]⟩ .f32) (W : FVec Ideal ⟨2, ![4096, 2048]⟩ .f32)

/-- Each device's buffers hold its part of the whole arrays: the columns of `x`, the rows of `w`. -/
def Agree : Prop := ∀ c : Dev nD,
  m ((c.tc : Thread nD τ).loc main_arg0) = Layout.block ⟨2, ![4096, 1024]⟩ ⟨2, ![4096, 4096]⟩ 1 4 c X
    ∧ m ((c.tc : Thread nD τ).loc main_arg1) = Layout.block ⟨2, ![1024, 2048]⟩ ⟨2, ![4096, 2048]⟩ 0 4 c W

/-- Position `k` of device `c`'s part of the inner axis. -/
def inner (c : Fin 4) (k : Fin 1024) : Fin 4096 := ⟨c.val * 1024 + k.val, by have := c.isLt; have := k.isLt; omega⟩

/-- The inner axis, device by device. -/
theorem sum_inner (f : Fin 4096 → EReal) : ∑ k, f k = ∑ c : Fin 4, ∑ k : Fin 1024, f (inner c k) := by
  rw [← Fintype.sum_prod_type', ← Equiv.sum_comp (finProdFinEquiv (m := 4) (n := 1024)) f]
  refine Finset.sum_congr rfl fun x _ => congrArg f (Fin.ext ?_)
  show x.2.val + 1024 * x.1.val = x.1.val * 1024 + x.2.val
  omega

/-- Device `c`'s share of entry `(r, b)` of the product. -/
def part (c : Fin 4) (r : Fin 4096) (b : Fin 2048) : EReal :=
  ∑ k : Fin 1024, X (ix2 r (inner c k)) * W (ix2 (inner c k) b)

/-- The product of the whole arrays is the sum of the devices' shares. -/
theorem product_at (r : Fin 4096) (b : Fin 2048) :
    Host.dotGeneral (DotDims.plain 4096 4096 2048) none X W (ix2 r b) = ∑ c : Fin 4, part X W c r b := by
  rw [StackMember.dotGeneral_plain_apply, sum_inner]; rfl

/-! ## A device's partial products -/

variable {m X W}

theorem xin_at (hA : Agree m X W) (c : Dev nD) (r : Fin 4096) (k : Fin 1024) : xin m ρ c (ix2 r k) = X (ix2 r (inner c k)) := by
  have h : xin m ρ c = m ((c.tc : Thread nD τ).loc main_arg0) := by
    unfold xin; simp only [Memref.view_whole, View.read_whole]; rfl
  rw [h, (hA c).1, Layout.block_apply]
  refine congrArg X ?_
  funext a; match a with | ⟨0, _⟩ => rfl | ⟨1, _⟩ => rfl

theorem win_at (hA : Agree m X W) (c : Dev nD) (k : Fin 1024) (b : Fin 2048) : win m ρ c (ix2 k b) = W (ix2 (inner c k) b) := by
  have h : win m ρ c = m ((c.tc : Thread nD τ).loc main_arg1) := by
    unfold win
    exact Memref.read_access_unit_zero _ _ (by decide) _ _
  rw [h, (hA c).2, Layout.block_apply]
  refine congrArg W ?_
  funext a; match a with | ⟨0, _⟩ => rfl | ⟨1, _⟩ => rfl

/-- Row `a` of half `j` of chunk `q` of direction `e`. -/
def row (e : Bool) (q : Dev nD) (j : ℕ) (h : j < 2) (a : Fin 256) : Fin 4096 :=
  ⟨row0 e q + 256 * j + a.val, by have := row0_le e q; have := a.isLt; omega⟩

theorem half0_at (hA : Agree m X W) (c : Dev nD) (e : Bool) (q : Dev nD) (j : ℕ) (h : j < 2) (a : Fin 256) (b : Fin 2048) :
    half0 m ρ c e q j h (ix2 a b) = part X W c (row e q j h a) b := by
  unfold half0 dot256
  rw [matmul_zero_eq_dotGeneral, shapeCast_self]
  refine (StackMember.dotGeneral_plain_apply none _ _ a b).trans (Finset.sum_congr rfl fun k _ => ?_)
  rw [win_at ρ hA]
  refine congrArg (· * _) ?_
  rw [← xin_at ρ hA]
  show xin m ρ c _ = xin m ρ c _
  refine congrArg _ ?_
  funext x; apply Fin.ext
  match x with
  | ⟨0, _⟩ => rw [ValueKit.rect_emb_unit_val, ValueKit.rect_emb_unit_val]; exact (Nat.add_assoc _ _ _).symm
  | ⟨1, _⟩ => rw [ValueKit.rect_emb_unit_val, ValueKit.rect_emb_unit_val]; exact (Nat.zero_add _).trans (Nat.zero_add _)

theorem halfP_at (hA : Agree m X W) (c : Dev nD) (e : Bool) (q : Dev nD) (j : ℕ) (h : j < 2) (a : Fin 256) (b : Fin 2048) :
    halfP m ρ c e q j h (ix2 a b) = part X W c (row e q j h a) b := by
  unfold halfP dot512
  rw [matmul_zero_eq_dotGeneral, shapeCast_self]
  have hi : (Rect.unit (s := S512x2048) ![256 * j, 0] S256x2048.size (inb_p h)).emb (ix2 a b)
      = ix2 (⟨256 * j + a.val, by have := a.isLt; omega⟩ : Fin 512) b := by
    funext x; apply Fin.ext
    match x with
    | ⟨0, _⟩ => rw [ValueKit.rect_emb_unit_val]; rfl
    | ⟨1, _⟩ => rw [ValueKit.rect_emb_unit_val]; exact Nat.zero_add _
  show Host.dotGeneral _ _ _ _ ((Rect.unit (s := S512x2048) ![256 * j, 0] S256x2048.size (inb_p h)).emb (ix2 a b)) = _
  rw [hi]
  refine (StackMember.dotGeneral_plain_apply none _ _ _ b).trans (Finset.sum_congr rfl fun k _ => ?_)
  rw [win_at ρ hA]
  refine congrArg (· * _) ?_
  rw [← xin_at ρ hA]
  show xin m ρ c _ = xin m ρ c _
  refine congrArg _ ?_
  funext x; apply Fin.ext
  match x with
  | ⟨0, _⟩ => rw [ValueKit.rect_emb_unit_val]; exact (Nat.add_assoc _ _ _).symm
  | ⟨1, _⟩ => rw [ValueKit.rect_emb_unit_val]; exact Nat.zero_add _

/-! ## The sum around the ring -/

/-- The four devices, each once, in the order of a ring. -/
theorem around (f : Dev nD → EReal) (e : Bool) (q : Dev nD) :
    f (ch e q 1) + (f (ch e q 2) + (f (ch e q 3) + f (ch e q 4))) = ∑ c : Fin 4, f c := by
  have h : ∀ (e : Bool) (q : Dev nD), ({ch e q 1, ch e q 2, ch e q 3, ch e q 4} : Finset (Dev nD)) = Finset.univ
      ∧ [ch e q 1, ch e q 2, ch e q 3, ch e q 4].Nodup := by decide
  have hs : ∑ c : Dev nD, f c = ∑ c ∈ [ch e q 1, ch e q 2, ch e q 3, ch e q 4].toFinset, f c := by
    rw [show [ch e q 1, ch e q 2, ch e q 3, ch e q 4].toFinset = Finset.univ from by rw [← (h e q).1]; simp]
  refine Eq.trans ?_ hs.symm
  rw [List.sum_toFinset _ (h e q).2]
  simp

/-- A finished half chunk is the sum of the devices' shares. -/
theorem fin_at (hA : Agree m X W) (e : Bool) (q : Dev nD) (j : ℕ) (h : j < 2) (a : Fin 256) (b : Fin 2048) :
    fin m ρ e q j h (ix2 a b) = ∑ c : Fin 4, part X W c (row e q j h a) b := by
  rw [← around (fun c => part X W c (row e q j h a) b) e q]
  show halfP m ρ (ch e q 1) e (ch e (ch e q 1) 3) j h (ix2 a b)
      + (halfP m ρ (ch e (ch e q 1) 1) e (ch e (ch e (ch e q 1) 1) 2) j h (ix2 a b)
      + (halfP m ρ (ch e (ch e (ch e q 1) 1) 1) e (ch e (ch e (ch e (ch e q 1) 1) 1) 1) j h (ix2 a b)
      + half0 m ρ (ch e (ch e (ch e (ch e q 1) 1) 1) 1) e (ch e (ch e (ch e (ch e q 1) 1) 1) 1) j h (ix2 a b))) = _
  simp only [ch_ch, Nat.reduceAdd, halfP_at ρ hA, half0_at ρ hA]
  simp only [ch_four e q 0, ch_zero]

/-! ## The result -/

/-- Every entry of the result lies in one half chunk. -/
theorem row_cover (r : Fin 4096) : ∃ (t : Bool × Fin 4 × Fin 2) (a : Fin 256), row t.1 t.2.1 t.2.2.val t.2.2.isLt a = r := by
  have hr := r.isLt
  refine ⟨(decide (2048 ≤ r.val), ⟨r.val % 2048 / 512, by omega⟩, ⟨r.val % 512 / 256, by omega⟩), ⟨r.val % 256, by omega⟩, Fin.ext ?_⟩
  show row0 _ _ + 256 * (r.val % 512 / 256) + r.val % 256 = r.val
  unfold row0
  by_cases h : 2048 ≤ r.val
  · simp only [h, decide_true, if_true]; omega
  · simp only [h, decide_false]; simp; omega

/-- Every device's result is the product of the whole arrays. -/
theorem out_eq (hA : Agree m X W) : outF m ρ = Host.dotGeneral (DotDims.plain 4096 4096 2048) none X W := by
  funext i
  rw [eq_ix2 i]
  obtain ⟨t, a, h⟩ := row_cover (i 0)
  have hi : (ix2 (i 0) (i 1) : S4096x2048.Idx) = (rectO t).emb (ix2 a (i 1)) := by
    funext x; apply Fin.ext
    match x with
    | ⟨0, _⟩ => rw [ValueKit.rect_emb_unit_val]; exact (congrArg Fin.val h).symm
    | ⟨1, _⟩ => rw [ValueKit.rect_emb_unit_val]; exact (Nat.zero_add _).symm
  refine Eq.trans ?_ (product_at X W (i 0) (i 1)).symm
  rw [← h]
  refine Eq.trans ?_ (fin_at ρ hA t.1 t.2.1 t.2.2.val t.2.2.isLt a (i 1))
  rw [← outF_at m ρ t, h]
  exact congrArg (outF m ρ) hi

end Cert.KernelIdeal.Proofs

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kern.Launch
public import proofs.«01_k».proof.Proof.Ideal.Value
public import Idealize.ShloMosaic.Adequacy
public import Idealize.ShloMosaic.Init

@[expose] public section

noncomputable section

namespace Cert.Proof

open Idealize.ShloMosaic Idealize.SL.Sem Cert.Kernel

/-- The kernel at the machine's words runs, leaves its arguments unchanged and every counter at zero. -/
theorem frame_p : Cert.quiescent_Kernel := fun m ρ _ =>
  (θ_run Cert.Kernel.defs _ _).mono (fun _ h => ⟨fun c => ⟨(h.1 c).1, (h.1 c).2.1⟩, h.2⟩) (Cert.Kernel.Proofs.run_main m ρ)

/-- So does the kernel over the extended reals. -/
theorem frame_pi : Cert.quiescent_KernelIdeal := fun m ρ _ =>
  (θ_run Cert.KernelIdeal.defs _ _).mono (fun _ h => ⟨fun c => ⟨(h.1 c).1, (h.1 c).2.1⟩, h.2⟩) (Cert.KernelIdeal.Proofs.run_main m ρ)

/-- So does the reference, which declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The product of the reference's whole arrays. -/
def product (m' : (ℓ : Loc Cert.ReferenceIdeal.nD Cert.ReferenceIdeal.τ Cert.ReferenceIdeal.sig) → Buf (Elt Ideal) ℓ) : FVec Ideal ⟨2, ![4096, 2048]⟩ .f32 :=
  Host.dotGeneral (φ₁ := .f32) (φ₂ := .f32) (DotDims.plain 4096 4096 2048) none
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))

/-- Over the extended reals every device's result is the reference's: the product of the whole arrays. -/
theorem value : Cert.algebraic_KernelIdeal_ReferenceIdeal := by
  intro m ρ m' ρ' _ hA
  refine ⟨product m', ?_, ?_⟩
  · exact (θ_run Cert.KernelIdeal.defs _ _).mono
      (fun _ h c => ⟨(h.1 c).2.2.trans (Cert.KernelIdeal.Proofs.out_eq ρ hA), (h.1 c).1, (h.1 c).2.1⟩) (Cert.KernelIdeal.Proofs.run_main m ρ)
  · exact (θ_run Cert.ReferenceIdeal.defs _ _).mono (fun _ h => ⟨(h 0).1, (h 0).2⟩) (Cert.ReferenceIdeal.Value.run m' ρ')

theorem claim : Cert.Claim :=
  ⟨Cert.Kernel.Gen.facts, Cert.KernelIdeal.Gen.facts, Cert.ReferenceIdeal.Gen.facts, frame_p, frame_pi, frame_ri, trivial, value⟩

end Cert.Proof

end
